-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_v188) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x8192x32 : Shape := ⟨3, ![8, 8192, 32]⟩
abbrev S8x512x32 : Shape := ⟨3, ![8, 512, 32]⟩
abbrev S_ : Shape := ⟨0, ![]⟩
abbrev S8x8192 : Shape := ⟨2, ![8, 8192]⟩
abbrev S8x512 : Shape := ⟨2, ![8, 512]⟩
abbrev S8x1x8192 : Shape := ⟨3, ![8, 1, 8192]⟩
abbrev S8x1x512 : Shape := ⟨3, ![8, 1, 512]⟩
abbrev S8x8192x1 : Shape := ⟨3, ![8, 8192, 1]⟩
abbrev S8x512x1 : Shape := ⟨3, ![8, 512, 1]⟩
abbrev S1x8192x32 : Shape := ⟨3, ![1, 8192, 32]⟩
abbrev S1x512x32 : Shape := ⟨3, ![1, 512, 32]⟩
abbrev S1x1x8192 : Shape := ⟨3, ![1, 1, 8192]⟩
abbrev S1x1x512 : Shape := ⟨3, ![1, 1, 512]⟩
abbrev S1x8192x1 : Shape := ⟨3, ![1, 8192, 1]⟩
abbrev S8192x32 : Shape := ⟨2, ![8192, 32]⟩
abbrev S512x32 : Shape := ⟨2, ![512, 32]⟩
abbrev S1x8192 : Shape := ⟨2, ![1, 8192]⟩
abbrev S8192x1 : Shape := ⟨2, ![8192, 1]⟩
abbrev S1x512 : Shape := ⟨2, ![1, 512]⟩
abbrev S8192x512 : Shape := ⟨2, ![8192, 512]⟩
abbrev S8192 : Shape := ⟨1, ![8192]⟩
abbrev S512 : Shape := ⟨1, ![512]⟩

abbrev nBuf : Space → Nat
  | .hbm => 112
  | .vmem => 80
  | .smem => 0
  | _ => 0

abbrev bufTy : (tb : Table) → Fin (tcTables nBuf tb) → BufTy
  | .hbm, ⟨0, _⟩ => ⟨S8x8192x32, .f32⟩
  | .hbm, ⟨1, _⟩ => ⟨S8x512x32, .f32⟩
  | .hbm, ⟨2, _⟩ => ⟨S8x8192x32, .f32⟩
  | .hbm, ⟨3, _⟩ => ⟨S_, .f32⟩
  | .hbm, ⟨4, _⟩ => ⟨S8x8192, .f32⟩
  | .hbm, ⟨5, _⟩ => ⟨S8x512x32, .f32⟩
  | .hbm, ⟨6, _⟩ => ⟨S_, .f32⟩
  | .hbm, ⟨7, _⟩ => ⟨S8x512, .f32⟩
  | .hbm, ⟨8, _⟩ => ⟨S8x1x8192, .f32⟩
  | .hbm, ⟨9, _⟩ => ⟨S8x1x512, .f32⟩
  | .hbm, ⟨10, _⟩ => ⟨S8x8192x1, .i32⟩
  | .hbm, ⟨11, _⟩ => ⟨S8x512x32, .f32⟩
  | .hbm, ⟨12, _⟩ => ⟨S8x1x512, .f32⟩
  | .hbm, ⟨13, _⟩ => ⟨S8x8192, .i32⟩
  | .hbm, ⟨14, _⟩ => ⟨S8x512x1, .f32⟩
  | .hbm, ⟨15, _⟩ => ⟨S_, .f32⟩
  | .hbm, ⟨16, _⟩ => ⟨S8x512x1, .f32⟩
  | .hbm, ⟨17, _⟩ => ⟨S8x512x1, .i1⟩
  | .hbm, ⟨18, _⟩ => ⟨S_, .f32⟩
  | .hbm, ⟨19, _⟩ => ⟨S8x512x1, .f32⟩
  | .hbm, ⟨20, _⟩ => ⟨S8x512x1, .f32⟩
  | .hbm, ⟨21, _⟩ => ⟨S8x512x32, .f32⟩
  | .hbm, ⟨22, _⟩ => ⟨S8x512x32, .f32⟩
  | .hbm, ⟨23, _⟩ => ⟨S8x512x32, .i1⟩
  | .hbm, ⟨24, _⟩ => ⟨S8x512x32, .f32⟩
  | .hbm, ⟨25, _⟩ => ⟨S8x512x32, .f32⟩
  | .hbm, ⟨26, _⟩ => ⟨S_, .f32⟩
  | .hbm, ⟨27, _⟩ => ⟨S8x512, .f32⟩
  | .hbm, ⟨28, _⟩ => ⟨S8x1x8192, .f32⟩
  | .hbm, ⟨29, _⟩ => ⟨S8x1x512, .f32⟩
  | .hbm, ⟨30, _⟩ => ⟨S8x8192x1, .i32⟩
  | .hbm, ⟨31, _⟩ => ⟨S8x512x32, .f32⟩
  | .hbm, ⟨32, _⟩ => ⟨S8x1x512, .f32⟩
  | .hbm, ⟨33, _⟩ => ⟨S8x8192, .i32⟩
  | .hbm, ⟨34, _⟩ => ⟨S8x512x1, .f32⟩
  | .hbm, ⟨35, _⟩ => ⟨S_, .f32⟩
  | .hbm, ⟨36, _⟩ => ⟨S8x512x1, .f32⟩
  | .hbm, ⟨37, _⟩ => ⟨S8x512x1, .i1⟩
  | .hbm, ⟨38, _⟩ => ⟨S_, .f32⟩
  | .hbm, ⟨39, _⟩ => ⟨S8x512x1, .f32⟩
  | .hbm, ⟨40, _⟩ => ⟨S8x512x1, .f32⟩
  | .hbm, ⟨41, _⟩ => ⟨S8x512x32, .f32⟩
  | .hbm, ⟨42, _⟩ => ⟨S8x512x32, .f32⟩
  | .hbm, ⟨43, _⟩ => ⟨S8x512x32, .i1⟩
  | .hbm, ⟨44, _⟩ => ⟨S8x512x32, .f32⟩
  | .hbm, ⟨45, _⟩ => ⟨S8x512x32, .f32⟩
  | .hbm, ⟨46, _⟩ => ⟨S_, .f32⟩
  | .hbm, ⟨47, _⟩ => ⟨S8x512, .f32⟩
  | .hbm, ⟨48, _⟩ => ⟨S8x1x8192, .f32⟩
  | .hbm, ⟨49, _⟩ => ⟨S8x1x512, .f32⟩
  | .hbm, ⟨50, _⟩ => ⟨S8x8192x1, .i32⟩
  | .hbm, ⟨51, _⟩ => ⟨S8x512x32, .f32⟩
  | .hbm, ⟨52, _⟩ => ⟨S8x1x512, .f32⟩
  | .hbm, ⟨53, _⟩ => ⟨S8x8192, .i32⟩
  | .hbm, ⟨54, _⟩ => ⟨S8x512x1, .f32⟩
  | .hbm, ⟨55, _⟩ => ⟨S_, .f32⟩
  | .hbm, ⟨56, _⟩ => ⟨S8x512x1, .f32⟩
  | .hbm, ⟨57, _⟩ => ⟨S8x512x1, .i1⟩
  | .hbm, ⟨58, _⟩ => ⟨S_, .f32⟩
  | .hbm, ⟨59, _⟩ => ⟨S8x512x1, .f32⟩
  | .hbm, ⟨60, _⟩ => ⟨S8x512x1, .f32⟩
  | .hbm, ⟨61, _⟩ => ⟨S8x512x32, .f32⟩
  | .hbm, ⟨62, _⟩ => ⟨S8x512x32, .f32⟩
  | .hbm, ⟨63, _⟩ => ⟨S8x512x32, .i1⟩
  | .hbm, ⟨64, _⟩ => ⟨S8x512x32, .f32⟩
  | .hbm, ⟨65, _⟩ => ⟨S8x512x32, .f32⟩
  | .hbm, ⟨66, _⟩ => ⟨S_, .f32⟩
  | .hbm, ⟨67, _⟩ => ⟨S8x512, .f32⟩
  | .hbm, ⟨68, _⟩ => ⟨S8x1x8192, .f32⟩
  | .hbm, ⟨69, _⟩ => ⟨S8x1x512, .f32⟩
  | .hbm, ⟨70, _⟩ => ⟨S8x8192x1, .i32⟩
  | .hbm, ⟨71, _⟩ => ⟨S8x512x32, .f32⟩
  | .hbm, ⟨72, _⟩ => ⟨S8x1x512, .f32⟩
  | .hbm, ⟨73, _⟩ => ⟨S8x8192, .i32⟩
  | .hbm, ⟨74, _⟩ => ⟨S8x512x1, .f32⟩
  | .hbm, ⟨75, _⟩ => ⟨S_, .f32⟩
  | .hbm, ⟨76, _⟩ => ⟨S8x512x1, .f32⟩
  | .hbm, ⟨77, _⟩ => ⟨S8x512x1, .i1⟩
  | .hbm, ⟨78, _⟩ => ⟨S_, .f32⟩
  | .hbm, ⟨79, _⟩ => ⟨S8x512x1, .f32⟩
  | .hbm, ⟨80, _⟩ => ⟨S8x512x1, .f32⟩
  | .hbm, ⟨81, _⟩ => ⟨S8x512x32, .f32⟩
  | .hbm, ⟨82, _⟩ => ⟨S8x512x32, .f32⟩
  | .hbm, ⟨83, _⟩ => ⟨S8x512x32, .i1⟩
  | .hbm, ⟨84, _⟩ => ⟨S8x512x32, .f32⟩
  | .hbm, ⟨85, _⟩ => ⟨S8x512x32, .f32⟩
  | .hbm, ⟨86, _⟩ => ⟨S_, .f32⟩
  | .hbm, ⟨87, _⟩ => ⟨S8x512, .f32⟩
  | .hbm, ⟨88, _⟩ => ⟨S8x1x8192, .f32⟩
  | .hbm, ⟨89, _⟩ => ⟨S8x1x512, .f32⟩
  | .hbm, ⟨90, _⟩ => ⟨S8x8192x1, .i32⟩
  | .hbm, ⟨91, _⟩ => ⟨S8x512x32, .f32⟩
  | .hbm, ⟨92, _⟩ => ⟨S8x1x512, .f32⟩
  | .hbm, ⟨93, _⟩ => ⟨S8x8192, .i32⟩
  | .hbm, ⟨94, _⟩ => ⟨S8x512x1, .f32⟩
  | .hbm, ⟨95, _⟩ => ⟨S_, .f32⟩
  | .hbm, ⟨96, _⟩ => ⟨S8x512x1, .f32⟩
  | .hbm, ⟨97, _⟩ => ⟨S8x512x1, .i1⟩
  | .hbm, ⟨98, _⟩ => ⟨S_, .f32⟩
  | .hbm, ⟨99, _⟩ => ⟨S8x512x1, .f32⟩
  | .hbm, ⟨100, _⟩ => ⟨S8x512x1, .f32⟩
  | .hbm, ⟨101, _⟩ => ⟨S8x512x32, .f32⟩
  | .hbm, ⟨102, _⟩ => ⟨S8x512x32, .f32⟩
  | .hbm, ⟨103, _⟩ => ⟨S8x512x32, .i1⟩
  | .hbm, ⟨104, _⟩ => ⟨S8x512x32, .f32⟩
  | .hbm, ⟨105, _⟩ => ⟨S8x512x32, .f32⟩
  | .hbm, ⟨106, _⟩ => ⟨S_, .f32⟩
  | .hbm, ⟨107, _⟩ => ⟨S8x512, .f32⟩
  | .hbm, ⟨108, _⟩ => ⟨S8x1x8192, .f32⟩
  | .hbm, ⟨109, _⟩ => ⟨S8x1x512, .f32⟩
  | .hbm, ⟨110, _⟩ => ⟨S8x8192x1, .i32⟩
  | .hbm, ⟨111, _⟩ => ⟨S8x8192, .i32⟩
  | .local _ .vmem, ⟨0, _⟩ => ⟨S1x8192x32, .f32⟩
  | .local _ .vmem, ⟨1, _⟩ => ⟨S1x8192x32, .f32⟩
  | .local _ .vmem, ⟨2, _⟩ => ⟨S1x512x32, .f32⟩
  | .local _ .vmem, ⟨3, _⟩ => ⟨S1x512x32, .f32⟩
  | .local _ .vmem, ⟨4, _⟩ => ⟨S1x1x8192, .f32⟩
  | .local _ .vmem, ⟨5, _⟩ => ⟨S1x1x8192, .f32⟩
  | .local _ .vmem, ⟨6, _⟩ => ⟨S1x1x512, .f32⟩
  | .local _ .vmem, ⟨7, _⟩ => ⟨S1x1x512, .f32⟩
  | .local _ .vmem, ⟨8, _⟩ => ⟨S1x8192x1, .i32⟩
  | .local _ .vmem, ⟨9, _⟩ => ⟨S1x8192x1, .i32⟩
  | .local _ .vmem, ⟨10, _⟩ => ⟨S1x512x32, .f32⟩
  | .local _ .vmem, ⟨11, _⟩ => ⟨S1x512x32, .f32⟩
  | .local _ .vmem, ⟨12, _⟩ => ⟨S1x1x512, .f32⟩
  | .local _ .vmem, ⟨13, _⟩ => ⟨S1x1x512, .f32⟩
  | .local _ .vmem, ⟨14, _⟩ => ⟨S1x8192x32, .f32⟩
  | .local _ .vmem, ⟨15, _⟩ => ⟨S1x8192x32, .f32⟩
  | .local _ .vmem, ⟨16, _⟩ => ⟨S1x512x32, .f32⟩
  | .local _ .vmem, ⟨17, _⟩ => ⟨S1x512x32, .f32⟩
  | .local _ .vmem, ⟨18, _⟩ => ⟨S1x1x8192, .f32⟩
  | .local _ .vmem, ⟨19, _⟩ => ⟨S1x1x8192, .f32⟩
  | .local _ .vmem, ⟨20, _⟩ => ⟨S1x1x512, .f32⟩
  | .local _ .vmem, ⟨21, _⟩ => ⟨S1x1x512, .f32⟩
  | .local _ .vmem, ⟨22, _⟩ => ⟨S1x8192x1, .i32⟩
  | .local _ .vmem, ⟨23, _⟩ => ⟨S1x8192x1, .i32⟩
  | .local _ .vmem, ⟨24, _⟩ => ⟨S1x512x32, .f32⟩
  | .local _ .vmem, ⟨25, _⟩ => ⟨S1x512x32, .f32⟩
  | .local _ .vmem, ⟨26, _⟩ => ⟨S1x1x512, .f32⟩
  | .local _ .vmem, ⟨27, _⟩ => ⟨S1x1x512, .f32⟩
  | .local _ .vmem, ⟨28, _⟩ => ⟨S1x8192x32, .f32⟩
  | .local _ .vmem, ⟨29, _⟩ => ⟨S1x8192x32, .f32⟩
  | .local _ .vmem, ⟨30, _⟩ => ⟨S1x512x32, .f32⟩
  | .local _ .vmem, ⟨31, _⟩ => ⟨S1x512x32, .f32⟩
  | .local _ .vmem, ⟨32, _⟩ => ⟨S1x1x8192, .f32⟩
  | .local _ .vmem, ⟨33, _⟩ => ⟨S1x1x8192, .f32⟩
  | .local _ .vmem, ⟨34, _⟩ => ⟨S1x1x512, .f32⟩
  | .local _ .vmem, ⟨35, _⟩ => ⟨S1x1x512, .f32⟩
  | .local _ .vmem, ⟨36, _⟩ => ⟨S1x8192x1, .i32⟩
  | .local _ .vmem, ⟨37, _⟩ => ⟨S1x8192x1, .i32⟩
  | .local _ .vmem, ⟨38, _⟩ => ⟨S1x512x32, .f32⟩
  | .local _ .vmem, ⟨39, _⟩ => ⟨S1x512x32, .f32⟩
  | .local _ .vmem, ⟨40, _⟩ => ⟨S1x1x512, .f32⟩
  | .local _ .vmem, ⟨41, _⟩ => ⟨S1x1x512, .f32⟩
  | .local _ .vmem, ⟨42, _⟩ => ⟨S1x8192x32, .f32⟩
  | .local _ .vmem, ⟨43, _⟩ => ⟨S1x8192x32, .f32⟩
  | .local _ .vmem, ⟨44, _⟩ => ⟨S1x512x32, .f32⟩
  | .local _ .vmem, ⟨45, _⟩ => ⟨S1x512x32, .f32⟩
  | .local _ .vmem, ⟨46, _⟩ => ⟨S1x1x8192, .f32⟩
  | .local _ .vmem, ⟨47, _⟩ => ⟨S1x1x8192, .f32⟩
  | .local _ .vmem, ⟨48, _⟩ => ⟨S1x1x512, .f32⟩
  | .local _ .vmem, ⟨49, _⟩ => ⟨S1x1x512, .f32⟩
  | .local _ .vmem, ⟨50, _⟩ => ⟨S1x8192x1, .i32⟩
  | .local _ .vmem, ⟨51, _⟩ => ⟨S1x8192x1, .i32⟩
  | .local _ .vmem, ⟨52, _⟩ => ⟨S1x512x32, .f32⟩
  | .local _ .vmem, ⟨53, _⟩ => ⟨S1x512x32, .f32⟩
  | .local _ .vmem, ⟨54, _⟩ => ⟨S1x1x512, .f32⟩
  | .local _ .vmem, ⟨55, _⟩ => ⟨S1x1x512, .f32⟩
  | .local _ .vmem, ⟨56, _⟩ => ⟨S1x8192x32, .f32⟩
  | .local _ .vmem, ⟨57, _⟩ => ⟨S1x8192x32, .f32⟩
  | .local _ .vmem, ⟨58, _⟩ => ⟨S1x512x32, .f32⟩
  | .local _ .vmem, ⟨59, _⟩ => ⟨S1x512x32, .f32⟩
  | .local _ .vmem, ⟨60, _⟩ => ⟨S1x1x8192, .f32⟩
  | .local _ .vmem, ⟨61, _⟩ => ⟨S1x1x8192, .f32⟩
  | .local _ .vmem, ⟨62, _⟩ => ⟨S1x1x512, .f32⟩
  | .local _ .vmem, ⟨63, _⟩ => ⟨S1x1x512, .f32⟩
  | .local _ .vmem, ⟨64, _⟩ => ⟨S1x8192x1, .i32⟩
  | .local _ .vmem, ⟨65, _⟩ => ⟨S1x8192x1, .i32⟩
  | .local _ .vmem, ⟨66, _⟩ => ⟨S1x512x32, .f32⟩
  | .local _ .vmem, ⟨67, _⟩ => ⟨S1x512x32, .f32⟩
  | .local _ .vmem, ⟨68, _⟩ => ⟨S1x1x512, .f32⟩
  | .local _ .vmem, ⟨69, _⟩ => ⟨S1x1x512, .f32⟩
  | .local _ .vmem, ⟨70, _⟩ => ⟨S1x8192x32, .f32⟩
  | .local _ .vmem, ⟨71, _⟩ => ⟨S1x8192x32, .f32⟩
  | .local _ .vmem, ⟨72, _⟩ => ⟨S1x512x32, .f32⟩
  | .local _ .vmem, ⟨73, _⟩ => ⟨S1x512x32, .f32⟩
  | .local _ .vmem, ⟨74, _⟩ => ⟨S1x1x8192, .f32⟩
  | .local _ .vmem, ⟨75, _⟩ => ⟨S1x1x8192, .f32⟩
  | .local _ .vmem, ⟨76, _⟩ => ⟨S1x1x512, .f32⟩
  | .local _ .vmem, ⟨77, _⟩ => ⟨S1x1x512, .f32⟩
  | .local _ .vmem, ⟨78, _⟩ => ⟨S1x8192x1, .i32⟩
  | .local _ .vmem, ⟨79, _⟩ => ⟨S1x8192x1, .i32⟩
  | _, _ => ⟨S8x8192x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_cst : Ref sig .tc := ⟨.hbm, 3, rfl⟩
abbrev main_call0_v2 : Ref sig .tc := ⟨.hbm, 4, rfl⟩
abbrev main_call0_v3 : Ref sig .tc := ⟨.hbm, 5, rfl⟩
abbrev main_call0_cst_0 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7_0 : Ref sig .tc := ⟨.hbm, 10, rfl⟩
abbrev main_call0_v7_1 : Ref sig .tc := ⟨.hbm, 11, rfl⟩
abbrev main_call0_v7_2 : Ref sig .tc := ⟨.hbm, 12, rfl⟩
abbrev main_call0_v8 : Ref sig .tc := ⟨.hbm, 13, rfl⟩
abbrev main_call0_v9 : Ref sig .tc := ⟨.hbm, 14, rfl⟩
abbrev main_call0_cst_1 : Ref sig .tc := ⟨.hbm, 15, rfl⟩
abbrev main_call0_v10 : Ref sig .tc := ⟨.hbm, 16, rfl⟩
abbrev main_call0_v11 : Ref sig .tc := ⟨.hbm, 17, rfl⟩
abbrev main_call0_cst_2 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_call0_v0 : Ref sig .tc := ⟨.hbm, 23, rfl⟩
abbrev main_call0_v16 : Ref sig .tc := ⟨.hbm, 24, rfl⟩
abbrev main_call0_v17 : Ref sig .tc := ⟨.hbm, 25, rfl⟩
abbrev main_call0_cst_3 : Ref sig .tc := ⟨.hbm, 26, rfl⟩
abbrev main_call0_v18 : Ref sig .tc := ⟨.hbm, 27, rfl⟩
abbrev main_call0_v19 : Ref sig .tc := ⟨.hbm, 28, rfl⟩
abbrev main_call0_v20 : Ref sig .tc := ⟨.hbm, 29, rfl⟩
abbrev main_call0_v21_0 : Ref sig .tc := ⟨.hbm, 30, rfl⟩
abbrev main_call0_v21_1 : Ref sig .tc := ⟨.hbm, 31, rfl⟩
abbrev main_call0_v21_2 : Ref sig .tc := ⟨.hbm, 32, rfl⟩
abbrev main_call0_v22 : Ref sig .tc := ⟨.hbm, 33, rfl⟩
abbrev main_call0_v23 : Ref sig .tc := ⟨.hbm, 34, rfl⟩
abbrev main_call0_cst_4 : Ref sig .tc := ⟨.hbm, 35, rfl⟩
abbrev main_call0_v24 : Ref sig .tc := ⟨.hbm, 36, rfl⟩
abbrev main_call0_v25 : Ref sig .tc := ⟨.hbm, 37, rfl⟩
abbrev main_call0_cst_5 : Ref sig .tc := ⟨.hbm, 38, rfl⟩
abbrev main_call0_v26 : Ref sig .tc := ⟨.hbm, 39, rfl⟩
abbrev main_call0_v27 : Ref sig .tc := ⟨.hbm, 40, rfl⟩
abbrev main_call0_v28 : Ref sig .tc := ⟨.hbm, 41, rfl⟩
abbrev main_call0_v29 : Ref sig .tc := ⟨.hbm, 42, rfl⟩
abbrev main_call0_call1_v0 : Ref sig .tc := ⟨.hbm, 43, rfl⟩
abbrev main_call0_v30 : Ref sig .tc := ⟨.hbm, 44, rfl⟩
abbrev main_call0_v31 : Ref sig .tc := ⟨.hbm, 45, rfl⟩
abbrev main_call0_cst_6 : Ref sig .tc := ⟨.hbm, 46, rfl⟩
abbrev main_call0_v32 : Ref sig .tc := ⟨.hbm, 47, rfl⟩
abbrev main_call0_v33 : Ref sig .tc := ⟨.hbm, 48, rfl⟩
abbrev main_call0_v34 : Ref sig .tc := ⟨.hbm, 49, rfl⟩
abbrev main_call0_v35_0 : Ref sig .tc := ⟨.hbm, 50, rfl⟩
abbrev main_call0_v35_1 : Ref sig .tc := ⟨.hbm, 51, rfl⟩
abbrev main_call0_v35_2 : Ref sig .tc := ⟨.hbm, 52, rfl⟩
abbrev main_call0_v36 : Ref sig .tc := ⟨.hbm, 53, rfl⟩
abbrev main_call0_v37 : Ref sig .tc := ⟨.hbm, 54, rfl⟩
abbrev main_call0_cst_7 : Ref sig .tc := ⟨.hbm, 55, rfl⟩
abbrev main_call0_v38 : Ref sig .tc := ⟨.hbm, 56, rfl⟩
abbrev main_call0_v39 : Ref sig .tc := ⟨.hbm, 57, rfl⟩
abbrev main_call0_cst_8 : Ref sig .tc := ⟨.hbm, 58, rfl⟩
abbrev main_call0_v40 : Ref sig .tc := ⟨.hbm, 59, rfl⟩
abbrev main_call0_v41 : Ref sig .tc := ⟨.hbm, 60, rfl⟩
abbrev main_call0_v42 : Ref sig .tc := ⟨.hbm, 61, rfl⟩
abbrev main_call0_v43 : Ref sig .tc := ⟨.hbm, 62, rfl⟩
abbrev main_call0_call2_v0 : Ref sig .tc := ⟨.hbm, 63, rfl⟩
abbrev main_call0_v44 : Ref sig .tc := ⟨.hbm, 64, rfl⟩
abbrev main_call0_v45 : Ref sig .tc := ⟨.hbm, 65, rfl⟩
abbrev main_call0_cst_9 : Ref sig .tc := ⟨.hbm, 66, rfl⟩
abbrev main_call0_v46 : Ref sig .tc := ⟨.hbm, 67, rfl⟩
abbrev main_call0_v47 : Ref sig .tc := ⟨.hbm, 68, rfl⟩
abbrev main_call0_v48 : Ref sig .tc := ⟨.hbm, 69, rfl⟩
abbrev main_call0_v49_0 : Ref sig .tc := ⟨.hbm, 70, rfl⟩
abbrev main_call0_v49_1 : Ref sig .tc := ⟨.hbm, 71, rfl⟩
abbrev main_call0_v49_2 : Ref sig .tc := ⟨.hbm, 72, rfl⟩
abbrev main_call0_v50 : Ref sig .tc := ⟨.hbm, 73, rfl⟩
abbrev main_call0_v51 : Ref sig .tc := ⟨.hbm, 74, rfl⟩
abbrev main_call0_cst_10 : Ref sig .tc := ⟨.hbm, 75, rfl⟩
abbrev main_call0_v52 : Ref sig .tc := ⟨.hbm, 76, rfl⟩
abbrev main_call0_v53 : Ref sig .tc := ⟨.hbm, 77, rfl⟩
abbrev main_call0_cst_11 : Ref sig .tc := ⟨.hbm, 78, rfl⟩
abbrev main_call0_v54 : Ref sig .tc := ⟨.hbm, 79, rfl⟩
abbrev main_call0_v55 : Ref sig .tc := ⟨.hbm, 80, rfl⟩
abbrev main_call0_v56 : Ref sig .tc := ⟨.hbm, 81, rfl⟩
abbrev main_call0_v57 : Ref sig .tc := ⟨.hbm, 82, rfl⟩
abbrev main_call0_call3_v0 : Ref sig .tc := ⟨.hbm, 83, rfl⟩
abbrev main_call0_v58 : Ref sig .tc := ⟨.hbm, 84, rfl⟩
abbrev main_call0_v59 : Ref sig .tc := ⟨.hbm, 85, rfl⟩
abbrev main_call0_cst_12 : Ref sig .tc := ⟨.hbm, 86, rfl⟩
abbrev main_call0_v60 : Ref sig .tc := ⟨.hbm, 87, rfl⟩
abbrev main_call0_v61 : Ref sig .tc := ⟨.hbm, 88, rfl⟩
abbrev main_call0_v62 : Ref sig .tc := ⟨.hbm, 89, rfl⟩
abbrev main_call0_v63_0 : Ref sig .tc := ⟨.hbm, 90, rfl⟩
abbrev main_call0_v63_1 : Ref sig .tc := ⟨.hbm, 91, rfl⟩
abbrev main_call0_v63_2 : Ref sig .tc := ⟨.hbm, 92, rfl⟩
abbrev main_call0_v64 : Ref sig .tc := ⟨.hbm, 93, rfl⟩
abbrev main_call0_v65 : Ref sig .tc := ⟨.hbm, 94, rfl⟩
abbrev main_call0_cst_13 : Ref sig .tc := ⟨.hbm, 95, rfl⟩
abbrev main_call0_v66 : Ref sig .tc := ⟨.hbm, 96, rfl⟩
abbrev main_call0_v67 : Ref sig .tc := ⟨.hbm, 97, rfl⟩
abbrev main_call0_cst_14 : Ref sig .tc := ⟨.hbm, 98, rfl⟩
abbrev main_call0_v68 : Ref sig .tc := ⟨.hbm, 99, rfl⟩
abbrev main_call0_v69 : Ref sig .tc := ⟨.hbm, 100, rfl⟩
abbrev main_call0_v70 : Ref sig .tc := ⟨.hbm, 101, rfl⟩
abbrev main_call0_v71 : Ref sig .tc := ⟨.hbm, 102, rfl⟩
abbrev main_call0_call4_v0 : Ref sig .tc := ⟨.hbm, 103, rfl⟩
abbrev main_v0_0 : Ref sig .tc := ⟨.hbm, 104, rfl⟩
abbrev main_call0_v73 : Ref sig .tc := ⟨.hbm, 105, rfl⟩
abbrev main_call0_cst_15 : Ref sig .tc := ⟨.hbm, 106, rfl⟩
abbrev main_call0_v74 : Ref sig .tc := ⟨.hbm, 107, rfl⟩
abbrev main_call0_v75 : Ref sig .tc := ⟨.hbm, 108, rfl⟩
abbrev main_call0_v76 : Ref sig .tc := ⟨.hbm, 109, rfl⟩
abbrev main_call0_v77 : Ref sig .tc := ⟨.hbm, 110, rfl⟩
abbrev main_v0_1 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg4_1 : Ref sig .tc := ⟨.vmem, 37, rfl⟩
abbrev cc2_stg5_0 : Ref sig .tc := ⟨.vmem, 38, rfl⟩
abbrev cc2_stg5_1 : Ref sig .tc := ⟨.vmem, 39, rfl⟩
abbrev cc2_stg6_0 : Ref sig .tc := ⟨.vmem, 40, rfl⟩
abbrev cc2_stg6_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg2_1 : Ref sig .tc := ⟨.vmem, 47, rfl⟩
abbrev cc3_stg3_0 : Ref sig .tc := ⟨.vmem, 48, rfl⟩
abbrev cc3_stg3_1 : Ref sig .tc := ⟨.vmem, 49, rfl⟩
abbrev cc3_stg4_0 : Ref sig .tc := ⟨.vmem, 50, rfl⟩
abbrev cc3_stg4_1 : Ref sig .tc := ⟨.vmem, 51, rfl⟩
abbrev cc3_stg5_0 : Ref sig .tc := ⟨.vmem, 52, rfl⟩
abbrev cc3_stg5_1 : Ref sig .tc := ⟨.vmem, 53, rfl⟩
abbrev cc3_stg6_0 : Ref sig .tc := ⟨.vmem, 54, rfl⟩
abbrev cc3_stg6_1 : Ref sig .tc := ⟨.vmem, 55, rfl⟩
abbrev cc4_stg0_0 : Ref sig .tc := ⟨.vmem, 56, rfl⟩
abbrev cc4_stg0_1 : Ref sig .tc := ⟨.vmem, 57, rfl⟩
abbrev cc4_stg1_0 : Ref sig .tc := ⟨.vmem, 58, rfl⟩
abbrev cc4_stg1_1 : Ref sig .tc := ⟨.vmem, 59, rfl⟩
abbrev cc4_stg2_0 : Ref sig .tc := ⟨.vmem, 60, rfl⟩
abbrev cc4_stg2_1 : Ref sig .tc := ⟨.vmem, 61, rfl⟩
abbrev cc4_stg3_0 : Ref sig .tc := ⟨.vmem, 62, rfl⟩
abbrev cc4_stg3_1 : Ref sig .tc := ⟨.vmem, 63, rfl⟩
abbrev cc4_stg4_0 : Ref sig .tc := ⟨.vmem, 64, rfl⟩
abbrev cc4_stg4_1 : Ref sig .tc := ⟨.vmem, 65, rfl⟩
abbrev cc4_stg5_0 : Ref sig .tc := ⟨.vmem, 66, rfl⟩
abbrev cc4_stg5_1 : Ref sig .tc := ⟨.vmem, 67, rfl⟩
abbrev cc4_stg6_0 : Ref sig .tc := ⟨.vmem, 68, rfl⟩
abbrev cc4_stg6_1 : Ref sig .tc := ⟨.vmem, 69, rfl⟩
abbrev cc5_stg0_0 : Ref sig .tc := ⟨.vmem, 70, rfl⟩
abbrev cc5_stg0_1 : Ref sig .tc := ⟨.vmem, 71, rfl⟩
abbrev cc5_stg1_0 : Ref sig .tc := ⟨.vmem, 72, rfl⟩
abbrev cc5_stg1_1 : Ref sig .tc := ⟨.vmem, 73, rfl⟩
abbrev cc5_stg2_0 : Ref sig .tc := ⟨.vmem, 74, rfl⟩
abbrev cc5_stg2_1 : Ref sig .tc := ⟨.vmem, 75, rfl⟩
abbrev cc5_stg3_0 : Ref sig .tc := ⟨.vmem, 76, rfl⟩
abbrev cc5_stg3_1 : Ref sig .tc := ⟨.vmem, 77, rfl⟩
abbrev cc5_stg4_0 : Ref sig .tc := ⟨.vmem, 78, rfl⟩
abbrev cc5_stg4_1 : Ref sig .tc := ⟨.vmem, 79, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35
abbrev cc2_sem4_0 : DmaSem sig := 36
abbrev cc2_sem4_1 : DmaSem sig := 37
abbrev cc2_sem5_0 : DmaSem sig := 38
abbrev cc2_sem5_1 : DmaSem sig := 39
abbrev cc2_sem6_0 : DmaSem sig := 40
abbrev cc2_sem6_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem2_1 : DmaSem sig := 47
abbrev cc3_sem3_0 : DmaSem sig := 48
abbrev cc3_sem3_1 : DmaSem sig := 49
abbrev cc3_sem4_0 : DmaSem sig := 50
abbrev cc3_sem4_1 : DmaSem sig := 51
abbrev cc3_sem5_0 : DmaSem sig := 52
abbrev cc3_sem5_1 : DmaSem sig := 53
abbrev cc3_sem6_0 : DmaSem sig := 54
abbrev cc3_sem6_1 : DmaSem sig := 55
abbrev cc4_sem0_0 : DmaSem sig := 56
abbrev cc4_sem0_1 : DmaSem sig := 57
abbrev cc4_sem1_0 : DmaSem sig := 58
abbrev cc4_sem1_1 : DmaSem sig := 59
abbrev cc4_sem2_0 : DmaSem sig := 60
abbrev cc4_sem2_1 : DmaSem sig := 61
abbrev cc4_sem3_0 : DmaSem sig := 62
abbrev cc4_sem3_1 : DmaSem sig := 63
abbrev cc4_sem4_0 : DmaSem sig := 64
abbrev cc4_sem4_1 : DmaSem sig := 65
abbrev cc4_sem5_0 : DmaSem sig := 66
abbrev cc4_sem5_1 : DmaSem sig := 67
abbrev cc4_sem6_0 : DmaSem sig := 68
abbrev cc4_sem6_1 : DmaSem sig := 69
abbrev cc5_sem0_0 : DmaSem sig := 70
abbrev cc5_sem0_1 : DmaSem sig := 71
abbrev cc5_sem1_0 : DmaSem sig := 72
abbrev cc5_sem1_1 : DmaSem sig := 73
abbrev cc5_sem2_0 : DmaSem sig := 74
abbrev cc5_sem2_1 : DmaSem sig := 75
abbrev cc5_sem3_0 : DmaSem sig := 76
abbrev cc5_sem3_1 : DmaSem sig := 77
abbrev cc5_sem4_0 : DmaSem sig := 78
abbrev cc5_sem4_1 : DmaSem sig := 79

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8192x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x8192x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x8192x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x512x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x8192x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x512x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x8192 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x8192x1 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x512x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x1x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x8192x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x512x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1x8192 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x8192x1 .i32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x512x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x1x512 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![8], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_5 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_6 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x8192x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x512x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x1x8192 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x1x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1x8192x1 .i32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S1x512x32 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S1x1x512 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![8], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_3 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_4 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x8192x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x512x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1x1x8192 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S1x1x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S1x8192x1 .i32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]
-- ==== ReferenceIdeal.lean ====
abbrev S8x8192x32 : Shape := ⟨3, ![8, 8192, 32]⟩
abbrev S8x512x32 : Shape := ⟨3, ![8, 512, 32]⟩
abbrev S8 : Shape := ⟨1, ![8]⟩
abbrev S_ : Shape := ⟨0, ![]⟩
abbrev S8x1 : Shape := ⟨2, ![8, 1]⟩
abbrev S8x8192 : Shape := ⟨2, ![8, 8192]⟩
abbrev S8x8192x1 : Shape := ⟨3, ![8, 8192, 1]⟩
abbrev S8x512 : Shape := ⟨2, ![8, 512]⟩
abbrev S8x1x512 : Shape := ⟨3, ![8, 1, 512]⟩
abbrev S8x8192x512 : Shape := ⟨3, ![8, 8192, 512]⟩
abbrev S65536 : Shape := ⟨1, ![65536]⟩
abbrev S65536x32 : Shape := ⟨2, ![65536, 32]⟩
abbrev S4096x32 : Shape := ⟨2, ![4096, 32]⟩
abbrev S65536x1 : Shape := ⟨2, ![65536, 1]⟩
abbrev S4096 : Shape := ⟨1, ![4096]⟩
abbrev S8x512x1 : Shape := ⟨3, ![8, 512, 1]⟩

abbrev nBuf : Space → Nat
  | .hbm => 263
  | .vmem => 0
  | .smem => 0
  | _ => 0

abbrev hbmTy0_0 (i : Nat) : BufTy := match i % 128 with
  | 0 => ⟨S8x8192x32, .f32⟩
  | 1 => ⟨S8x512x32, .f32⟩
  | 2 => ⟨S8, .i32⟩
  | 3 => ⟨S_, .i32⟩
  | 4 => ⟨S8, .i32⟩
  | 5 => ⟨S8, .i32⟩
  | 6 => ⟨S8x1, .i32⟩
  | 7 => ⟨S8x8192x32, .f32⟩
  | 8 => ⟨S_, .f32⟩
  | 9 => ⟨S8x8192, .f32⟩
  | 10 => ⟨S8x8192x1, .f32⟩
  | 11 => ⟨S8x512x32, .f32⟩
  | 12 => ⟨S_, .f32⟩
  | 13 => ⟨S8x512, .f32⟩
  | 14 => ⟨S8x1x512, .f32⟩
  | 15 => ⟨S8x8192x512, .f32⟩
  | 16 => ⟨S_, .f32⟩
  | 17 => ⟨S8x8192x512, .f32⟩
  | 18 => ⟨S8x8192x512, .f32⟩
  | 19 => ⟨S8x8192x512, .f32⟩
  | 20 => ⟨S8x8192x512, .f32⟩
  | 21 => ⟨S8x8192x512, .f32⟩
  | 22 => ⟨S8x8192x512, .f32⟩
  | 23 => ⟨S8x8192x512, .i32⟩
  | 24 => ⟨S_, .f32⟩
  | 25 => ⟨S_, .i32⟩
  | 26 => ⟨S8x8192, .f32⟩
  | 27 => ⟨S8x8192, .i32⟩
  | 28 => ⟨S8x8192, .i32⟩
  | 29 => ⟨S8x8192, .i32⟩
  | 30 => ⟨S65536, .i32⟩
  | 31 => ⟨S65536x32, .f32⟩
  | 32 => ⟨S_, .f32⟩
  | 33 => ⟨S4096x32, .f32⟩
  | 34 => ⟨S65536x1, .i32⟩
  | 35 => ⟨S4096x32, .f32⟩
  | 36 => ⟨S8x512x32, .f32⟩
  | 37 => ⟨S_, .f32⟩
  | 38 => ⟨S65536, .f32⟩
  | 39 => ⟨S_, .f32⟩
  | 40 => ⟨S4096, .f32⟩
  | 41 => ⟨S65536x1, .i32⟩
  | 42 => ⟨S4096, .f32⟩
  | 43 => ⟨S8x512x1, .f32⟩
  | 44 => ⟨S_, .f32⟩
  | 45 => ⟨S8x512x1, .f32⟩
  | 46 => ⟨S8x512x1, .i1⟩
  | 47 => ⟨S_, .f32⟩
  | 48 => ⟨S8x512x1, .f32⟩
  | 49 => ⟨S8x512x1, .f32⟩
  | 50 => ⟨S8x512x32, .f32⟩
  | 51 => ⟨S8x512x32, .f32⟩
  | 52 => ⟨S8x512x32, .i1⟩
  | 53 => ⟨S8x512x32, .f32⟩
  | 54 => ⟨S8x8192x32, .f32⟩
  | 55 => ⟨S_, .f32⟩
  | 56 => ⟨S8x8192, .f32⟩
  | 57 => ⟨S8x8192x1, .f32⟩
  | 58 => ⟨S8x512x32, .f32⟩
  | 59 => ⟨S_, .f32⟩
  | 60 => ⟨S8x512, .f32⟩
  | 61 => ⟨S8x1x512, .f32⟩
  | 62 => ⟨S8x8192x512, .f32⟩
  | 63 => ⟨S_, .f32⟩
  | 64 => ⟨S8x8192x512, .f32⟩
  | 65 => ⟨S8x8192x512, .f32⟩
  | 66 => ⟨S8x8192x512, .f32⟩
  | 67 => ⟨S8x8192x512, .f32⟩
  | 68 => ⟨S8x8192x512, .f32⟩
  | 69 => ⟨S8x8192x512, .f32⟩
  | 70 => ⟨S8x8192x512, .i32⟩
  | 71 => ⟨S_, .f32⟩
  | 72 => ⟨S_, .i32⟩
  | 73 => ⟨S8x8192, .f32⟩
  | 74 => ⟨S8x8192, .i32⟩
  | 75 => ⟨S8x8192, .i32⟩
  | 76 => ⟨S8x8192, .i32⟩
  | 77 => ⟨S65536, .i32⟩
  | 78 => ⟨S65536x32, .f32⟩
  | 79 => ⟨S_, .f32⟩
  | 80 => ⟨S4096x32, .f32⟩
  | 81 => ⟨S65536x1, .i32⟩
  | 82 => ⟨S4096x32, .f32⟩
  | 83 => ⟨S8x512x32, .f32⟩
  | 84 => ⟨S_, .f32⟩
  | 85 => ⟨S65536, .f32⟩
  | 86 => ⟨S_, .f32⟩
  | 87 => ⟨S4096, .f32⟩
  | 88 => ⟨S65536x1, .i32⟩
  | 89 => ⟨S4096, .f32⟩
  | 90 => ⟨S8x512x1, .f32⟩
  | 91 => ⟨S_, .f32⟩
  | 92 => ⟨S8x512x1, .f32⟩
  | 93 => ⟨S8x512x1, .i1⟩
  | 94 => ⟨S_, .f32⟩
  | 95 => ⟨S8x512x1, .f32⟩
  | 96 => ⟨S8x512x1, .f32⟩
  | 97 => ⟨S8x512x32, .f32⟩
  | 98 => ⟨S8x512x32, .f32⟩
  | 99 => ⟨S8x512x32, .i1⟩
  | 100 => ⟨S8x512x32, .f32⟩
  | 101 => ⟨S8x8192x32, .f32⟩
  | 102 => ⟨S_, .f32⟩
  | 103 => ⟨S8x8192, .f32⟩
  | 104 => ⟨S8x8192x1, .f32⟩
  | 105 => ⟨S8x512x32, .f32⟩
  | 106 => ⟨S_, .f32⟩
  | 107 => ⟨S8x512, .f32⟩
  | 108 => ⟨S8x1x512, .f32⟩
  | 109 => ⟨S8x8192x512, .f32⟩
  | 110 => ⟨S_, .f32⟩
  | 111 => ⟨S8x8192x512, .f32⟩
  | 112 => ⟨S8x8192x512, .f32⟩
  | 113 => ⟨S8x8192x512, .f32⟩
  | 114 => ⟨S8x8192x512, .f32⟩
  | 115 => ⟨S8x8192x512, .f32⟩
  | 116 => ⟨S8x8192x512, .f32⟩
  | 117 => ⟨S8x8192x512, .i32⟩
  | 118 => ⟨S_, .f32⟩
  | 119 => ⟨S_, .i32⟩
  | 120 => ⟨S8x8192, .f32⟩
  | 121 => ⟨S8x8192, .i32⟩
  | 122 => ⟨S8x8192, .i32⟩
  | 123 => ⟨S8x8192, .i32⟩
  | 124 => ⟨S65536, .i32⟩
  | 125 => ⟨S65536x32, .f32⟩
  | 126 => ⟨S_, .f32⟩
  | 127 => ⟨S4096x32, .f32⟩
  | _ => ⟨S8x8192x32, .f32⟩

abbrev hbmTy0_1 (i : Nat) : BufTy := match i % 128 with
  | 0 => ⟨S65536x1, .i32⟩
  | 1 => ⟨S4096x32, .f32⟩
  | 2 => ⟨S8x512x32, .f32⟩
  | 3 => ⟨S_, .f32⟩
  | 4 => ⟨S65536, .f32⟩
  | 5 => ⟨S_, .f32⟩
  | 6 => ⟨S4096, .f32⟩
  | 7 => ⟨S65536x1, .i32⟩
  | 8 => ⟨S4096, .f32⟩
  | 9 => ⟨S8x512x1, .f32⟩
  | 10 => ⟨S_, .f32⟩
  | 11 => ⟨S8x512x1, .f32⟩
  | 12 => ⟨S8x512x1, .i1⟩
  | 13 => ⟨S_, .f32⟩
  | 14 => ⟨S8x512x1, .f32⟩
  | 15 => ⟨S8x512x1, .f32⟩
  | 16 => ⟨S8x512x32, .f32⟩
  | 17 => ⟨S8x512x32, .f32⟩
  | 18 => ⟨S8x512x32, .i1⟩
  | 19 => ⟨S8x512x32, .f32⟩
  | 20 => ⟨S8x8192x32, .f32⟩
  | 21 => ⟨S_, .f32⟩
  | 22 => ⟨S8x8192, .f32⟩
  | 23 => ⟨S8x8192x1, .f32⟩
  | 24 => ⟨S8x512x32, .f32⟩
  | 25 => ⟨S_, .f32⟩
  | 26 => ⟨S8x512, .f32⟩
  | 27 => ⟨S8x1x512, .f32⟩
  | 28 => ⟨S8x8192x512, .f32⟩
  | 29 => ⟨S_, .f32⟩
  | 30 => ⟨S8x8192x512, .f32⟩
  | 31 => ⟨S8x8192x512, .f32⟩
  | 32 => ⟨S8x8192x512, .f32⟩
  | 33 => ⟨S8x8192x512, .f32⟩
  | 34 => ⟨S8x8192x512, .f32⟩
  | 35 => ⟨S8x8192x512, .f32⟩
  | 36 => ⟨S8x8192x512, .i32⟩
  | 37 => ⟨S_, .f32⟩
  | 38 => ⟨S_, .i32⟩
  | 39 => ⟨S8x8192, .f32⟩
  | 40 => ⟨S8x8192, .i32⟩
  | 41 => ⟨S8x8192, .i32⟩
  | 42 => ⟨S8x8192, .i32⟩
  | 43 => ⟨S65536, .i32⟩
  | 44 => ⟨S65536x32, .f32⟩
  | 45 => ⟨S_, .f32⟩
  | 46 => ⟨S4096x32, .f32⟩
  | 47 => ⟨S65536x1, .i32⟩
  | 48 => ⟨S4096x32, .f32⟩
  | 49 => ⟨S8x512x32, .f32⟩
  | 50 => ⟨S_, .f32⟩
  | 51 => ⟨S65536, .f32⟩
  | 52 => ⟨S_, .f32⟩
  | 53 => ⟨S4096, .f32⟩
  | 54 => ⟨S65536x1, .i32⟩
  | 55 => ⟨S4096, .f32⟩
  | 56 => ⟨S8x512x1, .f32⟩
  | 57 => ⟨S_, .f32⟩
  | 58 => ⟨S8x512x1, .f32⟩
  | 59 => ⟨S8x512x1, .i1⟩
  | 60 => ⟨S_, .f32⟩
  | 61 => ⟨S8x512x1, .f32⟩
  | 62 => ⟨S8x512x1, .f32⟩
  | 63 => ⟨S8x512x32, .f32⟩
  | 64 => ⟨S8x512x32, .f32⟩
  | 65 => ⟨S8x512x32, .i1⟩
  | 66 => ⟨S8x512x32, .f32⟩
  | 67 => ⟨S8x8192x32, .f32⟩
  | 68 => ⟨S_, .f32⟩
  | 69 => ⟨S8x8192, .f32⟩
  | 70 => ⟨S8x8192x1, .f32⟩
  | 71 => ⟨S8x512x32, .f32⟩
  | 72 => ⟨S_, .f32⟩
  | 73 => ⟨S8x512, .f32⟩
  | 74 => ⟨S8x1x512, .f32⟩
  | 75 => ⟨S8x8192x512, .f32⟩
  | 76 => ⟨S_, .f32⟩
  | 77 => ⟨S8x8192x512, .f32⟩
  | 78 => ⟨S8x8192x512, .f32⟩
  | 79 => ⟨S8x8192x512, .f32⟩
  | 80 => ⟨S8x8192x512, .f32⟩
  | 81 => ⟨S8x8192x512, .f32⟩
  | 82 => ⟨S8x8192x512, .f32⟩
  | 83 => ⟨S8x8192x512, .i32⟩
  | 84 => ⟨S_, .f32⟩
  | 85 => ⟨S_, .i32⟩
  | 86 => ⟨S8x8192, .f32⟩
  | 87 => ⟨S8x8192, .i32⟩
  | 88 => ⟨S8x8192, .i32⟩
  | 89 => ⟨S8x8192, .i32⟩
  | 90 => ⟨S65536, .i32⟩
  | 91 => ⟨S65536x32, .f32⟩
  | 92 => ⟨S_, .f32⟩
  | 93 => ⟨S4096x32, .f32⟩
  | 94 => ⟨S65536x1, .i32⟩
  | 95 => ⟨S4096x32, .f32⟩
  | 96 => ⟨S8x512x32, .f32⟩
  | 97 => ⟨S_, .f32⟩
  | 98 => ⟨S65536, .f32⟩
  | 99 => ⟨S_, .f32⟩
  | 100 => ⟨S4096, .f32⟩
  | 101 => ⟨S65536x1, .i32⟩
  | 102 => ⟨S4096, .f32⟩
  | 103 => ⟨S8x512x1, .f32⟩
  | 104 => ⟨S_, .f32⟩
  | 105 => ⟨S8x512x1, .f32⟩
  | 106 => ⟨S8x512x1, .i1⟩
  | 107 => ⟨S_, .f32⟩
  | 108 => ⟨S8x512x1, .f32⟩
  | 109 => ⟨S8x512x1, .f32⟩
  | 110 => ⟨S8x512x32, .f32⟩
  | 111 => ⟨S8x512x32, .f32⟩
  | 112 => ⟨S8x512x32, .i1⟩
  | 113 => ⟨S8x512x32, .f32⟩
  | 114 => ⟨S8x8192x32, .f32⟩
  | 115 => ⟨S_, .f32⟩
  | 116 => ⟨S8x8192, .f32⟩
  | 117 => ⟨S8x8192x1, .f32⟩
  | 118 => ⟨S8x512x32, .f32⟩
  | 119 => ⟨S_, .f32⟩
  | 120 => ⟨S8x512, .f32⟩
  | 121 => ⟨S8x1x512, .f32⟩
  | 122 => ⟨S8x8192x512, .f32⟩
  | 123 => ⟨S_, .f32⟩
  | 124 => ⟨S8x8192x512, .f32⟩
  | 125 => ⟨S8x8192x512, .f32⟩
  | 126 => ⟨S8x8192x512, .f32⟩
  | 127 => ⟨S8x8192x512, .f32⟩
  | _ => ⟨S8x8192x32, .f32⟩

abbrev hbmTy0_2 (i : Nat) : BufTy := match i % 128 with
  | 0 => ⟨S8x8192x512, .f32⟩
  | 1 => ⟨S8x8192x512, .f32⟩
  | 2 => ⟨S8x8192x512, .i32⟩
  | 3 => ⟨S_, .f32⟩
  | 4 => ⟨S_, .i32⟩
  | 5 => ⟨S8x8192, .f32⟩
  | 6 => ⟨S8x8192, .i32⟩
  | _ => ⟨S8x8192x32, .f32⟩

abbrev hbmTy (i : Nat) : BufTy := match i / 128 with
  | 0 => hbmTy0_0 i
  | 1 => hbmTy0_1 i
  | 2 => hbmTy0_2 i
  | _ => ⟨S8x8192x32, .f32⟩

abbrev bufTy : (tb : Table) → Fin (tcTables nBuf tb) → BufTy
  | .hbm, ⟨i, _⟩ => hbmTy i
  | _, _ => ⟨S8x8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_call1_v0 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_call2_v0 : Ref sig .tc := ⟨.hbm, 70, rfl⟩
abbrev main_call2_cst : Ref sig .tc := ⟨.hbm, 71, rfl⟩
abbrev main_call2_c : Ref sig .tc := ⟨.hbm, 72, rfl⟩
abbrev main_call2_v1_0 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_v67 : Ref sig .tc := ⟨.hbm, 93, rfl⟩
abbrev main_cst_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_call3_v0 : Ref sig .tc := ⟨.hbm, 99, rfl⟩
abbrev main_v72 : Ref sig .tc := ⟨.hbm, 100, rfl⟩
abbrev main_v73 : Ref sig .tc := ⟨.hbm, 101, rfl⟩
abbrev main_cst_15 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_16 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_call4_v0 : Ref sig .tc := ⟨.hbm, 117, rfl⟩
abbrev main_call4_cst : Ref sig .tc := ⟨.hbm, 118, rfl⟩
abbrev main_call4_c : Ref sig .tc := ⟨.hbm, 119, rfl⟩
abbrev main_call4_v1_0 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_18 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_19 : Ref sig .tc := ⟨.hbm, 131, rfl⟩
abbrev main_v95 : Ref sig .tc := ⟨.hbm, 132, rfl⟩
abbrev main_cst_20 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_21 : Ref sig .tc := ⟨.hbm, 138, rfl⟩
abbrev main_v100 : Ref sig .tc := ⟨.hbm, 139, rfl⟩
abbrev main_v101 : Ref sig .tc := ⟨.hbm, 140, rfl⟩
abbrev main_cst_22 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_call5_v0 : Ref sig .tc := ⟨.hbm, 146, rfl⟩
abbrev main_v106 : Ref sig .tc := ⟨.hbm, 147, rfl⟩
abbrev main_v107 : Ref sig .tc := ⟨.hbm, 148, rfl⟩
abbrev main_cst_23 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_cst_24 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_cst_25 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_call6_v0 : Ref sig .tc := ⟨.hbm, 164, rfl⟩
abbrev main_call6_cst : Ref sig .tc := ⟨.hbm, 165, rfl⟩
abbrev main_call6_c : Ref sig .tc := ⟨.hbm, 166, rfl⟩
abbrev main_call6_v1_0 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_cst_26 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_cst_27 : Ref sig .tc := ⟨.hbm, 178, rfl⟩
abbrev main_v129 : Ref sig .tc := ⟨.hbm, 179, rfl⟩
abbrev main_cst_28 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_cst_29 : Ref sig .tc := ⟨.hbm, 185, rfl⟩
abbrev main_v134 : Ref sig .tc := ⟨.hbm, 186, rfl⟩
abbrev main_v135 : Ref sig .tc := ⟨.hbm, 187, rfl⟩
abbrev main_cst_30 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_call7_v0 : Ref sig .tc := ⟨.hbm, 193, rfl⟩
abbrev main_v140 : Ref sig .tc := ⟨.hbm, 194, rfl⟩
abbrev main_v141 : Ref sig .tc := ⟨.hbm, 195, rfl⟩
abbrev main_cst_31 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_cst_32 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_cst_33 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_call8_v0 : Ref sig .tc := ⟨.hbm, 211, rfl⟩
abbrev main_call8_cst : Ref sig .tc := ⟨.hbm, 212, rfl⟩
abbrev main_call8_c : Ref sig .tc := ⟨.hbm, 213, rfl⟩
abbrev main_call8_v1_0 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_cst_34 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_cst_35 : Ref sig .tc := ⟨.hbm, 225, rfl⟩
abbrev main_v163 : Ref sig .tc := ⟨.hbm, 226, rfl⟩
abbrev main_cst_36 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_cst_37 : Ref sig .tc := ⟨.hbm, 232, rfl⟩
abbrev main_v168 : Ref sig .tc := ⟨.hbm, 233, rfl⟩
abbrev main_v169 : Ref sig .tc := ⟨.hbm, 234, rfl⟩
abbrev main_cst_38 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_call9_v0 : Ref sig .tc := ⟨.hbm, 240, rfl⟩
abbrev main_v174 : Ref sig .tc := ⟨.hbm, 241, rfl⟩
abbrev main_v175 : Ref sig .tc := ⟨.hbm, 242, rfl⟩
abbrev main_cst_39 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_cst_40 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_cst_41 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_call10_v0 : Ref sig .tc := ⟨.hbm, 258, rfl⟩
abbrev main_call10_cst : Ref sig .tc := ⟨.hbm, 259, rfl⟩
abbrev main_call10_c : Ref sig .tc := ⟨.hbm, 260, rfl⟩
abbrev main_call10_v1_0 : Ref sig .tc := ⟨.hbm, 261, rfl⟩
abbrev main_v188 : Ref sig .tc := ⟨.hbm, 262, rfl⟩

abbrev nD : Nat := 1
abbrev τ : Topo := Topo.v7x

variable {F : FTy → Type} [FloatOps F]
-- ==== Proof.RefTerms.lean ====
/- The reference's mathematics as functions of the arrays: one round of the clustering (distances, assignment, sums, counts, new centers),
   written with the reference program's own operations. The reference's run (RefRun.lean) is stated with these functions. -/
module

public import proofs.«01_k».proof.Proof.Gen.ReferenceIdeal
public import Idealize.ShloMosaic.Lib.Pointwise

@[expose] public section

set_option maxRecDepth 16384

noncomputable section

namespace Cert.Proof

open Idealize.ShloMosaic Cert.ReferenceIdeal Cert.ReferenceIdeal.Facts₀

/-- The first 512 points of every batch: the centers before the first round. -/
def initCenters (X : FVec Ideal S8x8192x32 .f32) : FVec Ideal S8x512x32 .f32 :=
  extractStridedSlice S8x512x32 ![0, 0, 0] X slices_S8x8192x32_S8x512x32_0_0_0

/-- The squared distance of every point to every center, in expanded form: `|x|² - 2·x·c + |c|²`. -/
def dist (X : FVec Ideal S8x8192x32 .f32) (C : FVec Ideal S8x512x32 .f32) : FVec Ideal S8x8192x512 .f32 :=
  addf
    (subf
      (broadcastInDim S8x8192x512 ![0, 1, 2] bcast_S8x8192x1_S8x8192x512_0_1_2
        (broadcastInDim S8x8192x1 ![0, 1] bcast_S8x8192_S8x8192x1_0_1
          (Host.reduceAdd (mulf X X) (constant S_ .f32 0x00000000#32) reducesTo_S8x8192x32_S8x8192_d2 h_S_)))
      (mulf (broadcastInDim S8x8192x512 ![] bcast_S_S8x8192x512 (constant S_ .f32 0x40000000#32))
        (Host.dotGeneral dot_S8x8192x32_S8x512x32_S8x8192x512_2_2_1_1_0_0 none X C)))
    (broadcastInDim S8x8192x512 ![0, 1, 2] bcast_S8x1x512_S8x8192x512_0_1_2
      (broadcastInDim S8x1x512 ![0, 2] bcast_S8x512_S8x1x512_0_2
        (Host.reduceAdd (mulf C C) (constant S_ .f32 0x00000000#32) reducesTo_S8x512x32_S8x512_d2 h_S_)))

/-- The index part of the reference's arg-min, at any shapes. -/
def argminIdx {s t u : Shape} {axes : List (Fin s.rank)} (D : FVec Ideal s .f32) (y : s.Idx → BitVec 32)
    (ix : FVec Ideal u .f32) (iy : u.Idx → BitVec 32) (h : s.ReducesTo axes t) (hu : 0 < u.numel) : t.Idx → BitVec 32 :=
  fun j => (Host.argReduce reducer_argmin_f32_i32 D y ix iy h hu j).2

/-- `argminIdx` is the function the reference program spells out. -/
theorem argminIdx_def {s t u : Shape} {axes : List (Fin s.rank)} (D : FVec Ideal s .f32) (y : s.Idx → BitVec 32)
    (ix : FVec Ideal u .f32) (iy : u.Idx → BitVec 32) (h : s.ReducesTo axes t) (hu : 0 < u.numel) :
    (fun j => (Host.argReduce reducer_argmin_f32_i32 D y ix iy h hu j).2) = argminIdx D y ix iy h hu := rfl

/-- The arg-min over the centers of an array of distances, as the reference takes it. -/
def argminOf (D : FVec Ideal S8x8192x512 .f32) : IVec S8x8192 32 :=
  argminIdx D (iotaInDim S8x8192x512 32 2) (constant S_ .f32 0x7F800000#32) (constantI S_ 32 0#32)
    reducesTo_S8x8192x512_S8x8192_d2 h_S_

/-- The number of the nearest center of every point. -/
def asg (X : FVec Ideal S8x8192x32 .f32) (C : FVec Ideal S8x512x32 .f32) : IVec S8x8192 32 := argminOf (dist X C)

/-- The row of the flattened table of centers of every point: the number of its center plus 512 times its batch. -/
def flatIds (A : IVec S8x8192 32) : IVec S65536x1 32 :=
  broadcastInDim S65536x1 ![0] bcast_S65536_S65536x1_0
    (shapeCast S65536
      (addi A (broadcastInDim S8x8192 ![0, 1] bcast_S8x1_S8x8192_0_1
        (broadcastInDim S8x1 ![0] bcast_S8_S8x1_0
          (muli (iotaInDim S8 32 0) (broadcastInDim S8 ![] bcast_S_S8 (constantI S_ 32 512#32))))))
      shapeCasts_S8x8192_S65536)

/-- The sum of the points assigned to every center. -/
def sums (X : FVec Ideal S8x8192x32 .f32) (A : IVec S8x8192 32) : FVec Ideal S8x512x32 .f32 :=
  shapeCast S8x512x32
    (Host.scatterAdd scatter_S4096x32_S65536x1_S65536x32_1_0_0_1
      (broadcastInDim S4096x32 ![] bcast_S_S4096x32 (constant S_ .f32 0x00000000#32))
      (flatIds A) (shapeCast S65536x32 X shapeCasts_S8x8192x32_S65536x32))
    shapeCasts_S4096x32_S8x512x32

/-- How many points are assigned to every center. -/
def counts (A : IVec S8x8192 32) : FVec Ideal S8x512x1 .f32 :=
  shapeCast S8x512x1
    (Host.scatterAdd scatter_S4096_S65536x1_S65536_n_0_0_1
      (broadcastInDim S4096 ![] bcast_S_S4096 (constant S_ .f32 0x00000000#32))
      (flatIds A) (broadcastInDim S65536 ![] bcast_S_S65536 (constant S_ .f32 0x3F800000#32)))
    shapeCasts_S4096_S8x512x1

/-- New centers from sums and counts: the mean of the assigned points, or the old center where none is assigned. -/
def newCenters (S : FVec Ideal S8x512x32 .f32) (N : FVec Ideal S8x512x1 .f32) (C : FVec Ideal S8x512x32 .f32) :
    FVec Ideal S8x512x32 .f32 :=
  select
    (broadcastInDim S8x512x32 ![0, 1, 2] bcast_S8x512x1_S8x512x32_0_1_2
      (cmpf .ogt N (broadcastInDim S8x512x1 ![] bcast_S_S8x512x1 (constant S_ .f32 0x00000000#32))))
    (Host.divf S (broadcastInDim S8x512x32 ![0, 1, 2] bcast_S8x512x1_S8x512x32_0_1_2
      (maximumf N (broadcastInDim S8x512x1 ![] bcast_S_S8x512x1 (constant S_ .f32 0x3F800000#32)))))
    C

/-- One round: assign the points to the centers, then move every center to the mean of its points. -/
def step (X : FVec Ideal S8x8192x32 .f32) (C : FVec Ideal S8x512x32 .f32) : FVec Ideal S8x512x32 .f32 :=
  newCenters (sums X (asg X C)) (counts (asg X C)) C

/-- The centers after `r` rounds. -/
def centers (X : FVec Ideal S8x8192x32 .f32) : ℕ → FVec Ideal S8x512x32 .f32
  | 0 => initCenters X
  | r + 1 => step X (centers X r)

end Cert.Proof
-- ==== Proof.FirstMin.lean ====
/- The first position of the least value of a finite family of extended reals, and the two ways a program takes it:
   the least index among those whose value is the minimum, and the left fold of the arg-min body over (value, index) pairs. -/
module

public import proofs.«01_k».proof.Proof.RefTerms
public import Idealize.ShloMosaic.Lib.Pointwise
public import Idealize.ShloMosaic.Lib.SortNet.Extract
public import Idealize.ShloMosaic.PureOps.Reduce
public import Idealize.ShloMosaic.PureOps.Ideal.Laws

@[expose] public section

set_option maxRecDepth 16384

noncomputable section

namespace Cert.Proof

open Idealize.ShloMosaic Cert.ReferenceIdeal Cert.ReferenceIdeal.Facts₀

/-- `k` is the first position at which `f` takes its least value. -/
def IsFirstMin (f : Fin 512 → EReal) (k : Fin 512) : Prop := (∀ j, f k ≤ f j) ∧ ∀ j, f j = f k → k ≤ j

/-- Every family has a first least position. -/
theorem exists_isFirstMin (f : Fin 512 → EReal) : ∃ k, IsFirstMin f k := by
  obtain ⟨m, -, hm⟩ := Finset.exists_min_image Finset.univ f ⟨0, Finset.mem_univ _⟩
  obtain ⟨k, hk, hmin⟩ := (Finset.univ.filter fun k => f k = f m).exists_min_image id ⟨m, by simp⟩
  have hk' : f k = f m := (Finset.mem_filter.1 hk).2
  exact ⟨k, fun j => hk' ▸ hm j (Finset.mem_univ j), fun j hj => hmin j (by simp [hj, hk'])⟩

/-- The word of a position below 512, read signed, is the position. -/
theorem toInt_ofNat_512 (k : Fin 512) : (BitVec.ofNat 32 k.val).toInt = (k.val : Int) := by
  have := k.isLt
  rw [BitVec.toInt_ofNat', Int.bmod_def]; omega

/-- Words of positions below 512 are equal only for equal positions. -/
theorem ofNat_512_inj {k l : Fin 512} (h : BitVec.ofNat 32 k.val = BitVec.ofNat 32 l.val) : k = l := by
  have := congrArg BitVec.toInt h
  rw [toInt_ofNat_512, toInt_ofNat_512] at this
  exact Fin.ext (by omega)

/-- The pattern of positive infinity is the top of the extended reals. -/
theorem ofBits_pos_inf : Ideal.ofBits FTy.f32 0x7F800000#32 = ⊤ := by simp [Ideal.ofBits, Ideal.ieee]

/-- The least index among the positions of the minimum (512 elsewhere) is the first least position. -/
theorem fold_minsi_eq (f : Fin 512 → EReal) (k : Fin 512) (hk : IsFirstMin f k) :
    Finset.fold IntOp.minsi (2147483647#32)
      (fun x : Fin 512 => if f x = Finset.fold min (Ideal.ofBits FTy.f32 0x7F800000#32) f Finset.univ
        then BitVec.ofNat 32 x.val else 512#32) Finset.univ = BitVec.ofNat 32 k.val := by
  have hm : Finset.fold min (Ideal.ofBits FTy.f32 0x7F800000#32) f Finset.univ = f k := by
    rw [ofBits_pos_inf]
    exact le_antisymm ((Finset.fold_min_le _).2 (.inr ⟨k, Finset.mem_univ _, le_rfl⟩))
      ((Finset.le_fold_min _).2 ⟨le_top, fun j _ => hk.1 j⟩)
  rw [hm]
  apply BitVec.eq_of_toInt_eq
  rw [← Finset.fold_hom (op := IntOp.minsi) (op' := min) (m := BitVec.toInt) (fun x y => SortNet.toInt_minsi x y), toInt_ofNat_512]
  apply le_antisymm
  · refine (Finset.fold_min_le _).2 (.inr ⟨k, Finset.mem_univ _, ?_⟩)
    rw [if_pos rfl, toInt_ofNat_512]
  · have hkl := k.isLt
    refine (Finset.le_fold_min _).2 ⟨?_, fun j _ => ?_⟩
    · have : (2147483647#32).toInt = 2147483647 := by decide
      omega
    · split
      · rename_i h
        have := hk.2 j h
        rw [toInt_ofNat_512]; exact_mod_cast this
      · have : (512#32).toInt = 512 := by decide
        omega

/-- A left fold by a choosing body whose choice is below both of its arguments, in a reflexive and transitive relation,
    ends at the initial element or a member of the list, below the initial element and every member. -/
theorem foldl_least {α : Type} (L : α → α → Prop) (f : α → α → α) (hr : ∀ a, L a a) (ht : ∀ a b c, L a b → L b c → L a c)
    (hc : ∀ a b, f a b = a ∨ f a b = b) (h1 : ∀ a b, L (f a b) a) (h2 : ∀ a b, L (f a b) b) (l : List α) :
    ∀ i, (l.foldl f i = i ∨ l.foldl f i ∈ l) ∧ L (l.foldl f i) i ∧ ∀ p ∈ l, L (l.foldl f i) p := by
  induction l with
  | nil => intro i; exact ⟨.inl rfl, hr _, fun _ h => absurd h List.not_mem_nil⟩
  | cons a l ih =>
    intro i
    obtain ⟨hm, hi, hl⟩ := ih (f i a)
    rw [List.foldl_cons]
    refine ⟨?_, ht _ _ _ hi (h1 i a), fun p hp => ?_⟩
    · rcases hm with hm | hm
      · rw [hm]
        rcases hc i a with h | h
        · exact .inl h
        · exact .inr (by rw [h]; exact List.mem_cons_self)
      · exact .inr (List.mem_cons_of_mem _ hm)
    · rcases List.mem_cons.1 hp with rfl | hp
      · exact ht _ _ _ hi (h2 i p)
      · exact hl p hp

/-- The lexicographic order of (value, index) pairs, the index read signed. -/
def pairLe (p q : EReal × BitVec 32) : Prop := p.1 < q.1 ∨ p.1 = q.1 ∧ p.2.toInt ≤ q.2.toInt

/-- The arg-min body takes the first pair when it is strictly below the second, else the second. -/
theorem reducer_eq (a b : EReal × BitVec 32) :
    (reducer_argmin_f32_i32 (F := Ideal) a b : EReal × BitVec 32)
      = if a.1 < b.1 ∨ a.1 = b.1 ∧ a.2.toInt < b.2.toInt then a else b := by
  obtain ⟨x, i⟩ := a
  obtain ⟨y, j⟩ := b
  have hs : IntOp.cmpi .slt i j = BitVec.ofBool (decide (i.toInt < j.toInt)) := rfl
  unfold reducer_argmin_f32_i32
  simp only [Ideal.cmpf_def, Ideal.cmp, hs]
  by_cases h1 : x < y
  · simp [h1, h1.ne, Scalar.select, IntOp.ori, IntOp.andi]
  · by_cases h2 : x = y
    · subst h2
      by_cases h3 : i.toInt < j.toInt
      · simp [h3, Scalar.select, IntOp.ori, IntOp.andi]
      · simp [h3, Scalar.select, IntOp.ori, IntOp.andi]
    · simp [h1, h2, Scalar.select, IntOp.ori, IntOp.andi]

/-- A left fold of the arg-min body from (+∞, 0) over a list that holds exactly the pairs `(f x, x)` ends at the first least position. -/
theorem foldl_reducer_eq (l : List (EReal × BitVec 32)) (f : Fin 512 → EReal)
    (hmem : ∀ p, p ∈ l ↔ ∃ x : Fin 512, p = (f x, BitVec.ofNat 32 x.val)) (k : Fin 512) (hk : IsFirstMin f k) :
    (l.foldl (reducer_argmin_f32_i32 (F := Ideal)) ((⊤ : EReal), 0#32)).2 = BitVec.ofNat 32 k.val := by
  obtain ⟨hm, hi, hl⟩ := foldl_least pairLe (reducer_argmin_f32_i32 (F := Ideal))
    (fun a => .inr ⟨rfl, le_rfl⟩)
    (by
      rintro a b c (h | ⟨h, h'⟩) (g | ⟨g, g'⟩)
      · exact .inl (h.trans g)
      · exact .inl (g ▸ h)
      · exact .inl (h ▸ g)
      · exact .inr ⟨h.trans g, h'.trans g'⟩)
    (by
      intro a b; rw [reducer_eq]; split
      · exact .inl rfl
      · exact .inr rfl)
    (by
      intro a b; rw [reducer_eq]; split
      · exact .inr ⟨rfl, le_rfl⟩
      · rename_i h
        rcases lt_trichotomy a.1 b.1 with g | g | g
        · exact absurd (.inl g) h
        · exact .inr ⟨g.symm, not_lt.1 fun h' => h (.inr ⟨g, h'⟩)⟩
        · exact .inl g)
    (by
      intro a b; rw [reducer_eq]; split
      · rename_i h
        exact h.imp id fun h => ⟨h.1, h.2.le⟩
      · exact .inr ⟨rfl, le_rfl⟩)
    l ((⊤ : EReal), 0#32)
  generalize l.foldl (reducer_argmin_f32_i32 (F := Ideal)) ((⊤ : EReal), 0#32) = r at hm hi hl ⊢
  have hres : ∃ x : Fin 512, r = (f x, BitVec.ofNat 32 x.val) := by
    rcases hm with hm | hm
    · refine ⟨0, ?_⟩
      have h0 := hl _ ((hmem _).2 ⟨0, rfl⟩)
      rw [hm] at h0 ⊢
      rcases h0 with h0 | h0
      · exact absurd h0 not_top_lt
      · exact Prod.ext h0.1 rfl
    · exact (hmem _).1 hm
  obtain ⟨x, rfl⟩ := hres
  have hall : ∀ j : Fin 512, pairLe (f x, BitVec.ofNat 32 x.val) (f j, BitVec.ofNat 32 j.val) := fun j => hl _ ((hmem _).2 ⟨j, rfl⟩)
  have hle : f x ≤ f k := by
    rcases hall k with h | h
    · exact h.le
    · exact h.1.le
  have heq : f x = f k := le_antisymm hle (hk.1 x)
  have hxk : x = k := by
    refine le_antisymm ?_ (hk.2 x heq)
    rcases hall k with h | h
    · exact absurd heq h.ne
    · have h2 := h.2
      simp only [toInt_ofNat_512] at h2
      exact_mod_cast h2
  rw [hxk]

/-- The pairs of a reduction's fiber are those of the source indices that drop to the result's index. -/
theorem mem_argReduceFiber {s t : Shape} {axes : List (Fin s.rank)} {α β : Type} (x : s.Idx → α) (y : s.Idx → β)
    (h : s.ReducesTo axes t) (j : t.Idx) (p : α × β) :
    p ∈ Host.argReduceFiber x y h j ↔ ∃ i, h.drop i = j ∧ p = (x i, y i) := by
  simp only [Host.argReduceFiber, List.mem_map, List.mem_filter, List.mem_finRange, true_and, decide_eq_true_eq]
  constructor
  · rintro ⟨q, hq, rfl⟩
    exact ⟨_, hq, rfl⟩
  · rintro ⟨i, hi, rfl⟩
    exact ⟨s.rowMajor i, by rw [Equiv.symm_apply_apply]; exact hi, by rw [Equiv.symm_apply_apply]⟩

/-- The pairs of the distances' fiber at a point are the pairs of its row. -/
theorem mem_row_iff (D : FVec Ideal S8x8192x512 .f32) (b : Fin 8) (n : Fin 8192) (p : EReal × BitVec 32) :
    (∃ i, (reducesTo_S8x8192x512_S8x8192_d2 : S8x8192x512.ReducesTo [2] S8x8192).drop i = ix2 b n ∧ p = (D i, iotaInDim S8x8192x512 32 2 i))
      ↔ ∃ x : Fin 512, p = (D (ix3 b n x), BitVec.ofNat 32 x.val) := by
  have hio : ∀ x : Fin 512, iotaInDim S8x8192x512 32 2 (ix3 b n x) = BitVec.ofNat 32 x.val := fun x => by pointwise
  constructor
  · rintro ⟨i, hi, rfl⟩
    obtain ⟨x, rfl⟩ := (Shape.ReducesTo.fiber_r3_a2 reducesTo_S8x8192x512_S8x8192_d2 (ix2 b n) i).1 hi
    exact ⟨x, Prod.ext rfl (hio x)⟩
  · rintro ⟨x, rfl⟩
    exact ⟨ix3 b n x, (Shape.ReducesTo.fiber_r3_a2 reducesTo_S8x8192x512_S8x8192_d2 (ix2 b n) _).2 ⟨x, rfl⟩, Prod.ext rfl (hio x).symm⟩

/-- An arg-min by the reference's body from (+∞, 0), at a result index, in terms of the pairs that drop there. -/
theorem argminIdx_eq {s t u : Shape} {axes : List (Fin s.rank)} (D : FVec Ideal s .f32) (y : s.Idx → BitVec 32)
    (ix : FVec Ideal u .f32) (iy : u.Idx → BitVec 32) (h : s.ReducesTo axes t) (hu : 0 < u.numel) (j : t.Idx)
    (hix : ix (Shape.Idx.first hu) = ⊤) (hiy : iy (Shape.Idx.first hu) = 0#32) (f : Fin 512 → EReal)
    (hmem : ∀ p : EReal × BitVec 32, (∃ i, h.drop i = j ∧ p = (D i, y i)) ↔ ∃ x : Fin 512, p = (f x, BitVec.ofNat 32 x.val))
    (k : Fin 512) (hk : IsFirstMin f k) :
    argminIdx D y ix iy h hu j = BitVec.ofNat 32 k.val := by
  show (Host.argReduce (F := Ideal) (φ := .f32) reducer_argmin_f32_i32 D y ix iy h hu j).2 = _
  rw [Ideal.argReduce_eq_reduce2, Host.reduce2_eq_foldl_fiber, hix, hiy]
  exact foldl_reducer_eq _ f (fun p => (mem_argReduceFiber _ _ _ _ p).trans (hmem p)) k hk

/-- A constant array read at an index is the value of its pattern. -/
theorem constant_at (s : Shape) (w : BitVec 32) (i : s.Idx) : (constant (F := Ideal) s .f32 w i : EReal) = Ideal.ofBits .f32 w := rfl

/-- The arg-min of an array of distances is, at every point, the first least position of its row. -/
theorem argminOf_eq (D : FVec Ideal S8x8192x512 .f32) (b : Fin 8) (n : Fin 8192) (k : Fin 512)
    (hk : IsFirstMin (fun x => D (ix3 b n x)) k) : argminOf D (ix2 b n) = BitVec.ofNat 32 k.val := by
  unfold argminOf
  exact argminIdx_eq D _ _ _ _ _ _ ((constant_at _ _ _).trans ofBits_pos_inf) rfl _ (mem_row_iff D b n) k hk

end Cert.Proof
-- ==== Proof.Segments.lean ====
/- The reference's two segment sums read at an index: where an update of either scatter lands, and each sum as a sum over the points of one batch. -/
module

public import proofs.«01_k».proof.Proof.FirstMin
public import Idealize.ShloMosaic.Lib.Routing.OpsPair

@[expose] public section

set_option maxRecDepth 16384

noncomputable section

namespace Cert.Proof

open Idealize.ShloMosaic Cert.ReferenceIdeal Cert.ReferenceIdeal.Facts₀

/-- Element `e` of update row `p` of the row scatter lands at row `q`, column `d` exactly when the row's index word is `q` and `e` is `d`. -/
theorem rows_land (idx : IVec S65536x1 32) (p : Fin 65536) (e : Fin 32) (q : Fin 4096) (d : Fin 32) :
    scatter_S4096x32_S65536x1_S65536x32_1_0_0_1.resultIdx? (ix2 p e) idx = some (ix2 q d) ↔
      (idx (ix2 p 0)).toInt = (q.val : Int) ∧ e = d := by
  have hs0 : scatter_S4096x32_S65536x1_S65536x32_1_0_0_1.start (ix2 p e) idx 0 = (idx (ix2 p 0)).toInt := by
    have hsi : ∀ c, scatter_S4096x32_S65536x1_S65536x32_1_0_0_1.siIdx (ix2 p e) c = ix2 p 0 := by
      intro c
      funext b
      match b with
      | ⟨0, _⟩ => rfl
      | ⟨1, _⟩ => exact Subsingleton.elim (α := Fin 1) _ _
    unfold ScatterDims.start
    rw [dif_pos (by decide), hsi]
  have hs1 : scatter_S4096x32_S65536x1_S65536x32_1_0_0_1.start (ix2 p e) idx 1 = 0 := by
    unfold ScatterDims.start
    rw [dif_neg (by decide)]
  have hw0 : scatter_S4096x32_S65536x1_S65536x32_1_0_0_1.window (ix2 p e) 0 = 0 := by
    unfold ScatterDims.window
    rw [dif_neg (by decide)]
  have hw1 : scatter_S4096x32_S65536x1_S65536x32_1_0_0_1.window (ix2 p e) 1 = e.val := by
    unfold ScatterDims.window
    rw [dif_pos (by decide)]
    rfl
  rw [Routing.resultIdx?_eq_some]
  constructor
  · intro h
    have h0 := h 0
    have h1 := h 1
    rw [hs0, hw0] at h0
    rw [hs1, hw1] at h1
    change _ = (q.val : Int) at h0
    change _ = (d.val : Int) at h1
    exact ⟨by omega, Fin.ext (by omega)⟩
  · rintro ⟨h, rfl⟩ a
    match a with
    | ⟨0, _⟩ =>
      show scatter_S4096x32_S65536x1_S65536x32_1_0_0_1.start (ix2 p e) idx 0 + (scatter_S4096x32_S65536x1_S65536x32_1_0_0_1.window (ix2 p e) 0 : Int) = (q.val : Int)
      rw [hs0, hw0]; omega
    | ⟨1, _⟩ =>
      show scatter_S4096x32_S65536x1_S65536x32_1_0_0_1.start (ix2 p e) idx 1 + (scatter_S4096x32_S65536x1_S65536x32_1_0_0_1.window (ix2 p e) 1 : Int) = (e.val : Int)
      rw [hs1, hw1]; omega

/-- Update `p` of the scalar scatter lands at `q` exactly when its index word is `q`. -/
theorem ones_land (idx : IVec S65536x1 32) (p : Fin 65536) (q : Fin 4096) :
    scatter_S4096_S65536x1_S65536_n_0_0_1.resultIdx? (ix1 p) idx = some (ix1 q) ↔ (idx (ix2 p 0)).toInt = (q.val : Int) := by
  have hs0 : scatter_S4096_S65536x1_S65536_n_0_0_1.start (ix1 p) idx 0 = (idx (ix2 p 0)).toInt := by
    have hsi : ∀ c, scatter_S4096_S65536x1_S65536_n_0_0_1.siIdx (ix1 p) c = ix2 p 0 := by
      intro c
      funext b
      match b with
      | ⟨0, _⟩ => rfl
      | ⟨1, _⟩ => exact Subsingleton.elim (α := Fin 1) _ _
    unfold ScatterDims.start
    rw [dif_pos (by decide), hsi]
  have hw0 : scatter_S4096_S65536x1_S65536_n_0_0_1.window (ix1 p) 0 = 0 := by
    unfold ScatterDims.window
    rw [dif_neg (by decide)]
  rw [Routing.resultIdx?_eq_some]
  constructor
  · intro h
    have h0 := h 0
    rw [hs0, hw0] at h0
    change _ = (q.val : Int) at h0
    omega
  · intro h a
    match a with
    | ⟨0, _⟩ =>
      show scatter_S4096_S65536x1_S65536_n_0_0_1.start (ix1 p) idx 0 + (scatter_S4096_S65536x1_S65536_n_0_0_1.window (ix1 p) 0 : Int) = (q.val : Int)
      rw [hs0, hw0]; omega

/-- The flat row of a point whose label is `l`: `512·b + l`, with no wrap. -/
theorem flatIds_eq (A : IVec S8x8192 32) (b : Fin 8) (n : Fin 8192) (l : Fin 512) (h : A (ix2 b n) = BitVec.ofNat 32 l.val) :
    (flatIds A (ix2 ⟨b.val * 8192 + n.val, by omega⟩ 0)).toInt = ((b.val * 512 + l.val : ℕ) : Int) := by
  have e : flatIds A (ix2 ⟨b.val * 8192 + n.val, by omega⟩ 0)
      = IntOp.addi (A (ix2 b n)) (IntOp.muli (BitVec.ofNat 32 b.val) 512#32) := by
    have h1 : (b.val * 8192 + n.val) / 8192 = b.val := by omega
    have h2 : (b.val * 8192 + n.val) % 8192 = n.val := by omega
    pointwise [flatIds]

  rw [e, h]
  have : IntOp.addi (BitVec.ofNat 32 l.val) (IntOp.muli (BitVec.ofNat 32 b.val) 512#32) = BitVec.ofNat 32 (b.val * 512 + l.val) := by
    apply BitVec.eq_of_toNat_eq
    simp only [IntOp.addi, IntOp.muli, BitVec.toNat_add, BitVec.toNat_mul, BitVec.toNat_ofNat]
    omega
  rw [this, StableHlo.Predicate.toInt_ofNat_small _ (by omega)]

/-- Row `n` of batch `b`, among the rows of all batches laid one after the other, is one of them. -/
theorem flat_lt {M N : ℕ} (b : Fin M) (n : Fin N) : b.val * N + n.val < M * N := by
  have : (b.val + 1) * N ≤ M * N := Nat.mul_le_mul_right N b.isLt
  have : (b.val + 1) * N = b.val * N + N := Nat.succ_mul _ _
  omega

/-- A sum over the rows of all batches, one after the other, of terms that vanish outside batch `b` is the sum over that batch. -/
theorem sum_flat {M N : ℕ} (f : Fin (M * N) → EReal) (g : Fin N → EReal) (b : Fin M)
    (hin : ∀ n : Fin N, f ⟨b.val * N + n.val, flat_lt b n⟩ = g n)
    (hout : ∀ (b' : Fin M) (n : Fin N), b' ≠ b → f ⟨b'.val * N + n.val, flat_lt b' n⟩ = 0) : ∑ p, f p = ∑ n, g n := by
  have e : ∑ p, f p = ∑ q : Fin M × Fin N, f (finProdFinEquiv q) := (Equiv.sum_comp finProdFinEquiv f).symm
  have hf : ∀ (b' : Fin M) (n : Fin N), f (finProdFinEquiv (b', n)) = f ⟨b'.val * N + n.val, flat_lt b' n⟩ := fun b' n =>
    congrArg f (Fin.ext (by rw [finProdFinEquiv_apply_val, Nat.mul_comm, Nat.add_comm]))
  rw [e, Fintype.sum_prod_type, Finset.sum_eq_single b]
  · exact Finset.sum_congr rfl fun n _ => (hf b n).trans (hin n)
  · intro b' _ hb
    exact Finset.sum_eq_zero fun n _ => (hf b' n).trans (hout b' n hb)
  · intro h; exact absurd (Finset.mem_univ b) h

/-- An array of labels all below 512. -/
def Labels (A : IVec S8x8192 32) : Prop := ∀ (b : Fin 8) (n : Fin 8192), ∃ l : Fin 512, A (ix2 b n) = BitVec.ofNat 32 l.val

/-- The scatter's sum at row `512·b + k` over all points is the sum over the points of batch `b` labelled `k`. -/
theorem sum_landed (A : IVec S8x8192 32) (hA : Labels A) (b : Fin 8) (k : Fin 512) (f : Fin 65536 → EReal) (g : Fin 8192 → EReal)
    (hg : ∀ n : Fin 8192, f ⟨b.val * 8192 + n.val, by omega⟩ = g n) :
    (∑ p : Fin 65536, if (flatIds A (ix2 p 0)).toInt = ((b.val * 512 + k.val : ℕ) : Int) then f p else 0)
      = ∑ n, if A (ix2 b n) = BitVec.ofNat 32 k.val then g n else 0 := by
  refine sum_flat (M := 8) (N := 8192) _ _ b (fun n => ?_) fun b' n hb => ?_
  · obtain ⟨l, hl⟩ := hA b n
    rw [flatIds_eq A b n l hl, hl, hg n]
    refine if_congr ⟨fun h => ?_, fun h => ?_⟩ rfl rfl
    · congr 1; omega
    · rw [ofNat_512_inj h]
  · obtain ⟨l, hl⟩ := hA b' n
    rw [flatIds_eq A b' n l hl]
    refine if_neg fun h => hb (Fin.ext ?_)
    omega

/-- The reference's sums: at a center, the sum of the points labelled with it. -/
theorem sums_eq (X : FVec Ideal S8x8192x32 .f32) (A : IVec S8x8192 32) (hA : Labels A) (b : Fin 8) (k : Fin 512) (d : Fin 32) :
    sums X A (ix3 b k d) = ∑ n, if A (ix2 b n) = BitVec.ofNat 32 k.val then X (ix3 b n d) else 0 := by
  have e : sums X A (ix3 b k d) = Host.scatterAdd scatter_S4096x32_S65536x1_S65536x32_1_0_0_1
      (broadcastInDim S4096x32 ![] bcast_S_S4096x32 (constant S_ .f32 0x00000000#32))
      (flatIds A) (shapeCast S65536x32 X shapeCasts_S8x8192x32_S65536x32) (ix2 ⟨b.val * 512 + k.val, by omega⟩ d) := by
    pointwise [sums]
  rw [e]
  show Ideal.hostScatterAdd _ _ _ _ _ = _
  unfold Ideal.hostScatterAdd
  have z : broadcastInDim S4096x32 ![] bcast_S_S4096x32 (constant (F := Ideal) S_ .f32 0x00000000#32) (ix2 ⟨b.val * 512 + k.val, by omega⟩ d) = 0 := by
    pointwise
  rw [z, zero_add, Finset.sum_filter, sum_idx2]
  simp only [rows_land]
  rw [← sum_landed A hA b k (fun p => shapeCast S65536x32 X shapeCasts_S8x8192x32_S65536x32 (ix2 p d)) (fun n => X (ix3 b n d)) fun n => by
    have h1 : (b.val * 8192 + n.val) / 8192 = b.val := by omega
    have h2 : (b.val * 8192 + n.val) % 8192 = n.val := by omega
    pointwise
    ]
  refine Finset.sum_congr rfl fun p _ => ?_
  by_cases h : (flatIds A (ix2 p 0)).toInt = ((b.val * 512 + k.val : ℕ) : Int)
  · simp only [h, true_and, if_true]
    rw [Finset.sum_ite_eq' Finset.univ d]
    simp only [Finset.mem_univ, if_true]
  · simp only [h, false_and, if_false, Finset.sum_const_zero]

/-- The reference's counts: at a center, how many points are labelled with it. -/
theorem counts_eq (A : IVec S8x8192 32) (hA : Labels A) (b : Fin 8) (k : Fin 512) :
    counts A (ix3 b k 0) = ∑ n, if A (ix2 b n) = BitVec.ofNat 32 k.val then (1 : EReal) else 0 := by
  have e : counts A (ix3 b k 0) = Host.scatterAdd scatter_S4096_S65536x1_S65536_n_0_0_1
      (broadcastInDim S4096 ![] bcast_S_S4096 (constant S_ .f32 0x00000000#32))
      (flatIds A) (broadcastInDim S65536 ![] bcast_S_S65536 (constant S_ .f32 0x3F800000#32)) (ix1 ⟨b.val * 512 + k.val, by omega⟩) := by
    pointwise [counts]
  rw [e]
  show Ideal.hostScatterAdd _ _ _ _ _ = _
  unfold Ideal.hostScatterAdd
  have z : broadcastInDim S4096 ![] bcast_S_S4096 (constant (F := Ideal) S_ .f32 0x00000000#32) (ix1 ⟨b.val * 512 + k.val, by omega⟩) = 0 := by
    pointwise
  rw [z, zero_add, Finset.sum_filter, sum_idx1]
  simp only [ones_land]
  exact sum_landed A hA b k (fun p => broadcastInDim S65536 ![] bcast_S_S65536 (constant (F := Ideal) S_ .f32 0x3F800000#32) (ix1 p)) (fun _ => 1) fun n => by
    pointwise

end Cert.Proof
-- ==== Proof.KernelBlock.lean ====
/- What one grid step of the kernel computes, from the batch it is given: the labels of the batch's points, the sums of the points by label, and the counts by label,
   each equal to the reference's. -/
module

public import proofs.«01_k».proof.Proof.Segments
public import proofs.«01_k».proof.Proof.Gen.KernelIdeal.Skeleton

@[expose] public section

set_option maxRecDepth 16384

noncomputable section

namespace Cert.Proof

open Idealize.ShloMosaic Cert.KernelIdeal

/-- The reference's squared distance at an index. -/
theorem dist_eq (X : FVec Ideal S8x8192x32 .f32) (C : FVec Ideal S8x512x32 .f32) (b : Fin 8) (n : Fin 8192) (k : Fin 512) :
    dist X C (ix3 b n k) = (∑ d : Fin 32, X (ix3 b n d) * X (ix3 b n d))
      - Ideal.ofBits .f32 0x40000000#32 * (∑ d : Fin 32, X (ix3 b n d) * C (ix3 b k d)) + ∑ d : Fin 32, C (ix3 b k d) * C (ix3 b k d) := by
  pointwise [dist]

/-- Every point's label is its first nearest center. -/
theorem asg_spec (X : FVec Ideal S8x8192x32 .f32) (C : FVec Ideal S8x512x32 .f32) (b : Fin 8) (n : Fin 8192) :
    ∃ k : Fin 512, IsFirstMin (fun x => dist X C (ix3 b n x)) k ∧ asg X C (ix2 b n) = BitVec.ofNat 32 k.val := by
  obtain ⟨k, hk⟩ := exists_isFirstMin (fun x => dist X C (ix3 b n x))
  exact ⟨k, hk, argminOf_eq _ b n k hk⟩

/-- The reference's labels are below 512. -/
theorem asg_labels (X : FVec Ideal S8x8192x32 .f32) (C : FVec Ideal S8x512x32 .f32) : Labels (asg X C) := fun b n => by
  obtain ⟨k, _, hk⟩ := asg_spec X C b n
  exact ⟨k, hk⟩

/-- The four blocks a grid step reads are those of batch `b`: its points, its centers, and the squared lengths of both. -/
structure IsBatch (X : FVec Ideal S8x8192x32 .f32) (C : FVec Ideal S8x512x32 .f32) (b : Fin 8) (v0 : Vec Ideal S1x8192x32 .f32)
    (v2 : Vec Ideal S1x512x32 .f32) (v4 : Vec Ideal S1x1x8192 .f32) (v7 : Vec Ideal S1x1x512 .f32) : Prop where
  points : ∀ (n : Fin 8192) (d : Fin 32), v0 (ix3 0 n d) = X (ix3 b n d)
  cents : ∀ (k : Fin 512) (d : Fin 32), v2 (ix3 0 k d) = C (ix3 b k d)
  pointsSq : ∀ n : Fin 8192, v4 (ix3 0 0 n) = ∑ d : Fin 32, X (ix3 b n d) * X (ix3 b n d)
  centsSq : ∀ k : Fin 512, v7 (ix3 0 0 k) = ∑ d : Fin 32, C (ix3 b k d) * C (ix3 b k d)

variable {X : FVec Ideal S8x8192x32 .f32} {C : FVec Ideal S8x512x32 .f32} {b : Fin 8} {v0 : Vec Ideal S1x8192x32 .f32}
  {v2 : Vec Ideal S1x512x32 .f32} {v4 : Vec Ideal S1x1x8192 .f32} {v7 : Vec Ideal S1x1x512 .f32}

/-- The kernel's label of a point is the reference's. -/
theorem label_eq (h : IsBatch X C b v0 v2 v4 v7) (n : Fin 8192) : Gen.k0_pay4 v0 v2 v4 v7 (ix1 n) = asg X C (ix2 b n) := by
  obtain ⟨k, hk, ha⟩ := asg_spec X C b n
  rw [ha]
  have hf : (fun x : Fin 512 => v4 (ix3 0 0 n) - Ideal.ofBits .f32 0x40000000#32 * (∑ d : Fin 32, v0 (ix3 0 n d) * v2 (ix3 0 x d)) + v7 (ix3 0 0 x))
      = fun x => dist X C (ix3 b n x) := by
    funext x
    simp only [dist_eq, h.points, h.cents, h.pointsSq, h.centsSq]
  rw [← hf] at hk
  pointwise [Gen.k0_pay4, Gen.k0_pay3]
  exact fold_minsi_eq _ k hk

/-- The kernel's membership test of a point in a cluster, as a number: one or zero. -/
theorem member_eq (A : BitVec 32) (k : Fin 512) (y : EReal) :
    (FloatOps.sitofp (F := Ideal) .f32 (BitVec.setWidth 32 (IntOp.cmpi .eq A (BitVec.ofNat 32 k.val))) : EReal) * y
      = if A = BitVec.ofNat 32 k.val then y else 0 := by
  by_cases h : A = BitVec.ofNat 32 k.val
  · subst h
    simp [IntOp.cmpi, FloatOps.sitofp]
  · have e : (A == BitVec.ofNat 32 k.val) = false := beq_eq_false_iff_ne.2 h
    simp [IntOp.cmpi, FloatOps.sitofp, h, e]

/-- The kernel's label block. -/
theorem labels_block (h : IsBatch X C b v0 v2 v4 v7) (n : Fin 8192) : Gen.k0_pay5 v0 v2 v4 v7 (ix3 0 n 0) = asg X C (ix2 b n) := by
  rw [← label_eq h n]
  pointwise [Gen.k0_pay5]

/-- The kernel's sums are the reference's. -/
theorem sums_block (h : IsBatch X C b v0 v2 v4 v7) (k : Fin 512) (d : Fin 32) :
    Gen.k0_pay1 (Gen.k0_pay7 v0 v2 v4 v7) (ix3 0 k d) = sums X (asg X C) (ix3 b k d) := by
  rw [sums_eq X _ (asg_labels X C)]
  pointwise [Gen.k0_pay1, Gen.k0_pay7, Gen.k0_pay6, Gen.k0_pay3]
  exact Finset.sum_congr rfl fun n _ => by rw [member_eq, label_eq h, h.points]

/-- The kernel's counts are the reference's. -/
theorem counts_block (h : IsBatch X C b v0 v2 v4 v7) (k : Fin 512) :
    Gen.k0_pay2 (Gen.k0_pay6 v0 v2 v4 v7) (ix3 0 0 k) = counts (asg X C) (ix3 b k 0) := by
  rw [counts_eq _ (asg_labels X C)]
  pointwise [Gen.k0_pay2, Gen.k0_pay6]
  exact Finset.sum_congr rfl fun n _ => by
    have := member_eq (Gen.k0_pay4 v0 v2 v4 v7 (ix1 n)) k 1
    rw [mul_one] at this
    rw [this, label_eq h]

end Cert.Proof
-- ==== Proof.Regions.lean ====
/- The kernel's six launches. Launches 0..4 are the rounds (labels, sums, counts), launch 5 labels the points with the final centers. For arbitrary contents `V` of the buffers
   at a launch's entry, if its four inputs hold the points, some centers `C` and their squared lengths, its outputs end as the reference's sums, counts and labels at `C`.
   Each fact is stated once, over the number of the launch. -/
module

public import proofs.«01_k».proof.Proof.KernelBlock
public import proofs.«01_k».proof.Proof.Gen.KernelIdeal.Frame
public import Idealize.ShloMosaic.Lib.Pipeline.ValueKit

@[expose] public section

set_option maxRecDepth 16384

noncomputable section

namespace Cert.Proof

open Idealize.ShloMosaic Idealize.ShloMosaic.TcCoe Idealize.ShloMosaic.Pipeline Cert.KernelIdeal Cert.KernelIdeal.Gen

/-- The contents of every core's buffers. -/
abbrev Contents := (c : Dev nD) → (b : Ref sig .tc) → Buf (Elt Ideal) ((c : Thread nD τ).loc b)

/-- A launch's four inputs are the points `X`, the centers `C`, and the squared lengths of the points and of the centers. -/
structure Inputs (X : FVec Ideal S8x8192x32 .f32) (C : FVec Ideal S8x512x32 .f32) (x : FVec Ideal S8x8192x32 .f32)
    (ctr : FVec Ideal S8x512x32 .f32) (xsq : FVec Ideal S8x1x8192 .f32) (csq : FVec Ideal S8x1x512 .f32) : Prop where
  points : x = X
  cents : ctr = C
  pointsSq : ∀ (b : Fin 8) (n : Fin 8192), xsq (ix3 b 0 n) = ∑ d : Fin 32, X (ix3 b n d) * X (ix3 b n d)
  centsSq : ∀ (b : Fin 8) (k : Fin 512), csq (ix3 b 0 k) = ∑ d : Fin 32, C (ix3 b k d) * C (ix3 b k d)

variable (V : Contents) (c : Dev nD) (X : FVec Ideal S8x8192x32 .f32) (C : FVec Ideal S8x512x32 .f32)

/-- Launch `r` is entered with its input buffers as `Inputs` says. -/
def Entered : Fin 6 → Prop
  | 0 => Inputs X C (V c main_arg0) (V c main_call0_v0) (V c main_call0_v5) (V c main_call0_v6)
  | 1 => Inputs X C (V c main_arg0) (V c main_call0_v16) (V c main_call0_v19) (V c main_call0_v20)
  | 2 => Inputs X C (V c main_arg0) (V c main_call0_v30) (V c main_call0_v33) (V c main_call0_v34)
  | 3 => Inputs X C (V c main_arg0) (V c main_call0_v44) (V c main_call0_v47) (V c main_call0_v48)
  | 4 => Inputs X C (V c main_arg0) (V c main_call0_v58) (V c main_call0_v61) (V c main_call0_v62)
  | 5 => Inputs X C (V c main_arg0) (V c main_v0_0) (V c main_call0_v75) (V c main_call0_v76)

/-- Every grid step of launch `r` reads the blocks of the batch of its number. -/
def ReadsBatches : Fin 6 → Prop
  | 0 => ∀ t : Fin cfg0.N, IsBatch X C (grid0.coords t 0) (iblk0 V c 0 t) (iblk0 V c 1 t) (iblk0 V c 2 t) (iblk0 V c 3 t)
  | 1 => ∀ t : Fin cfg1.N, IsBatch X C (grid1.coords t 0) (iblk1 V c 0 t) (iblk1 V c 1 t) (iblk1 V c 2 t) (iblk1 V c 3 t)
  | 2 => ∀ t : Fin cfg2.N, IsBatch X C (grid2.coords t 0) (iblk2 V c 0 t) (iblk2 V c 1 t) (iblk2 V c 2 t) (iblk2 V c 3 t)
  | 3 => ∀ t : Fin cfg3.N, IsBatch X C (grid3.coords t 0) (iblk3 V c 0 t) (iblk3 V c 1 t) (iblk3 V c 2 t) (iblk3 V c 3 t)
  | 4 => ∀ t : Fin cfg4.N, IsBatch X C (grid4.coords t 0) (iblk4 V c 0 t) (iblk4 V c 1 t) (iblk4 V c 2 t) (iblk4 V c 3 t)
  | 5 => ∀ t : Fin cfg5.N, IsBatch X C (grid5.coords t 0) (iblk5 V c 0 t) (iblk5 V c 1 t) (iblk5 V c 2 t) (iblk5 V c 3 t)

/-- The counts as the launches lay them out: one row of 512 per batch. -/
def countRows : FVec Ideal S8x1x512 .f32 := fun i => counts (asg X C) (ix3 (i 0) (i 2) 0)

/-- The labels as the launches lay them out: one column of 8192 per batch. -/
def labelColumns : IVec S8x8192x1 32 := fun i => asg X C (ix2 (i 0) (i 1))

/-- What launch `r` of the rounds leaves in its sums and counts. -/
def RoundLeaves : Fin 5 → Prop
  | 0 => (dat0 V c).arrAt 5 cfg0.N = sums X (asg X C) ∧ (dat0 V c).arrAt 6 cfg0.N = countRows X C
  | 1 => (dat1 V c).arrAt 5 cfg1.N = sums X (asg X C) ∧ (dat1 V c).arrAt 6 cfg1.N = countRows X C
  | 2 => (dat2 V c).arrAt 5 cfg2.N = sums X (asg X C) ∧ (dat2 V c).arrAt 6 cfg2.N = countRows X C
  | 3 => (dat3 V c).arrAt 5 cfg3.N = sums X (asg X C) ∧ (dat3 V c).arrAt 6 cfg3.N = countRows X C
  | 4 => (dat4 V c).arrAt 5 cfg4.N = sums X (asg X C) ∧ (dat4 V c).arrAt 6 cfg4.N = countRows X C

/-- An index with a leading axis of one. -/
theorem eq_ix3_one {a b : ℕ} (y : (⟨3, ![1, a, b]⟩ : Shape).Idx) : y = ix3 0 (y 1) (y 2) := by
  conv_lhs => rw [eq_ix3 y]
  congr 1
  exact Subsingleton.elim (α := Fin 1) _ _

/-- Every window of launch `r` that is read below moves along its array's leading axis with the grid. -/
def Moves : Fin 6 → Prop
  | 0 => ∀ t : Fin cfg0.N, win0_0.index t = ![(grid0.coords t 0).val, 0, 0] ∧ win0_1.index t = ![(grid0.coords t 0).val, 0, 0] ∧ win0_2.index t = ![(grid0.coords t 0).val, 0, 0] ∧ win0_3.index t = ![(grid0.coords t 0).val, 0, 0] ∧ win0_5.index t = ![(grid0.coords t 0).val, 0, 0] ∧ win0_6.index t = ![(grid0.coords t 0).val, 0, 0]
  | 1 => ∀ t : Fin cfg1.N, win1_0.index t = ![(grid1.coords t 0).val, 0, 0] ∧ win1_1.index t = ![(grid1.coords t 0).val, 0, 0] ∧ win1_2.index t = ![(grid1.coords t 0).val, 0, 0] ∧ win1_3.index t = ![(grid1.coords t 0).val, 0, 0] ∧ win1_5.index t = ![(grid1.coords t 0).val, 0, 0] ∧ win1_6.index t = ![(grid1.coords t 0).val, 0, 0]
  | 2 => ∀ t : Fin cfg2.N, win2_0.index t = ![(grid2.coords t 0).val, 0, 0] ∧ win2_1.index t = ![(grid2.coords t 0).val, 0, 0] ∧ win2_2.index t = ![(grid2.coords t 0).val, 0, 0] ∧ win2_3.index t = ![(grid2.coords t 0).val, 0, 0] ∧ win2_5.index t = ![(grid2.coords t 0).val, 0, 0] ∧ win2_6.index t = ![(grid2.coords t 0).val, 0, 0]
  | 3 => ∀ t : Fin cfg3.N, win3_0.index t = ![(grid3.coords t 0).val, 0, 0] ∧ win3_1.index t = ![(grid3.coords t 0).val, 0, 0] ∧ win3_2.index t = ![(grid3.coords t 0).val, 0, 0] ∧ win3_3.index t = ![(grid3.coords t 0).val, 0, 0] ∧ win3_5.index t = ![(grid3.coords t 0).val, 0, 0] ∧ win3_6.index t = ![(grid3.coords t 0).val, 0, 0]
  | 4 => ∀ t : Fin cfg4.N, win4_0.index t = ![(grid4.coords t 0).val, 0, 0] ∧ win4_1.index t = ![(grid4.coords t 0).val, 0, 0] ∧ win4_2.index t = ![(grid4.coords t 0).val, 0, 0] ∧ win4_3.index t = ![(grid4.coords t 0).val, 0, 0] ∧ win4_5.index t = ![(grid4.coords t 0).val, 0, 0] ∧ win4_6.index t = ![(grid4.coords t 0).val, 0, 0]
  | 5 => ∀ t : Fin cfg5.N, win5_0.index t = ![(grid5.coords t 0).val, 0, 0] ∧ win5_1.index t = ![(grid5.coords t 0).val, 0, 0] ∧ win5_2.index t = ![(grid5.coords t 0).val, 0, 0] ∧ win5_3.index t = ![(grid5.coords t 0).val, 0, 0] ∧ win5_4.index t = ![(grid5.coords t 0).val, 0, 0]

theorem moves (r : Fin 6) : Moves r := by
  fin_cases r <;> (dsimp only [Moves]; decide +kernel)

set_option maxHeartbeats 4000000 in
/-- A launch entered with its inputs in place reads, at every grid step, the blocks of one batch. -/
theorem reads_batches (r : Fin 6) (h : Entered V c X C r) : ReadsBatches V c X C r := by
  have hm := moves r
  fin_cases r <;>
  · intro t
    have hi := hm t
    refine ⟨fun n d => ?_, fun k d => ?_, fun n => Eq.trans ?_ (h.pointsSq _ n), fun k => Eq.trans ?_ (h.centsSq _ k)⟩
    · rw [← h.points]; blk_ext [iblk0, iblk1, iblk2, iblk3, iblk4, iblk5, hi]
    · rw [← h.cents]; blk_ext [iblk0, iblk1, iblk2, iblk3, iblk4, iblk5, hi]
    · blk_ext [iblk0, iblk1, iblk2, iblk3, iblk4, iblk5, hi]
    · blk_ext [iblk0, iblk1, iblk2, iblk3, iblk4, iblk5, hi]

set_option maxHeartbeats 4000000 in
/-- A round's launch leaves the reference's sums and counts. -/
theorem round_leaves (r : Fin 5) (h : Entered V c X C r.castSucc) : RoundLeaves V c X C r := by
  have hm := moves r.castSucc
  have hb := reads_batches V c X C r.castSucc h
  fin_cases r <;>
  · constructor
    · refine Dat.arrAt_eq_of_covers _ 5 _ (by decide +kernel) fun t hf y => ?_
      blk_simp
      simp only [after0_5, after1_5, after2_5, after3_5, after4_5]
      frame_out
      rw [eq_ix3_one y]
      refine (sums_block (hb t) (y 1) (y 2)).trans (congrArg (sums X (asg X C)) ?_)
      have hi := hm t
      blk_ext [hi]
    · refine Dat.arrAt_eq_of_covers _ 6 _ (by decide +kernel) fun t hf y => ?_
      blk_simp
      simp only [after0_6, after1_6, after2_6, after3_6, after4_6]
      frame_out
      rw [eq_ix3_one y, show (y 1) = (0 : Fin 1) from Subsingleton.elim (α := Fin 1) _ _]
      refine (counts_block (hb t) (y 2)).trans (congrArg (counts (asg X C)) ?_)
      have hi := hm t
      blk_ext [hi]

/-- The last launch leaves the reference's labels. -/
theorem labels_leave (h : Entered V c X C 5) : (dat5 V c).arrAt 4 cfg5.N = labelColumns X C := by
  have hm := moves 5
  have hb := reads_batches V c X C 5 h
  refine Dat.arrAt_eq_of_covers _ 4 _ (by decide +kernel) fun t hf y => ?_
  blk_simp
  rw [after5_4]
  frame_out
  rw [eq_ix3_one y, show (y 2) = (0 : Fin 1) from Subsingleton.elim (α := Fin 1) _ _]
  refine (labels_block (hb t) (y 1)).trans (congrArg (asg X C) ?_)
  have hi := hm t
  blk_ext [hi]

end Cert.Proof
-- ==== Proof.HostSteps.lean ====
/- The host operations between the kernel's launches, read at the buffers the next launch takes: the new centers, and the squared lengths laid out as rows. -/
module

public import proofs.«01_k».proof.Proof.Regions
public import Idealize.ShloMosaic.Lib.StableHlo.RunRead

@[expose] public section

set_option maxRecDepth 16384

noncomputable section

namespace Cert.Proof

open Idealize.ShloMosaic Idealize.ShloMosaic.TcCoe Cert.KernelIdeal Cert.KernelIdeal.Gen

/-- The squared lengths of the points. -/
def pointsSq (X : FVec Ideal S8x8192x32 .f32) : FVec Ideal S8x8192 .f32 :=
  Host.reduceAdd (mulf X X) (constant S_ .f32 0x00000000#32) Facts₀.reducesTo_S8x8192x32_S8x8192_d2 Facts₀.h_S_

/-- The squared lengths of the centers, one row per batch. -/
def centsSqRows (C : FVec Ideal S8x512x32 .f32) : FVec Ideal S8x1x512 .f32 :=
  shapeCast S8x1x512
    (Host.reduceAdd (mulf C C) (constant S_ .f32 0x00000000#32) Facts₀.reducesTo_S8x512x32_S8x512_d2 Facts₀.h_S_ : FVec Ideal S8x512 .f32)
    Facts₀.shapeCasts_S8x512_S8x1x512

/-- The squared lengths of the points, one row per batch. -/
def pointsSqRows (P : FVec Ideal S8x8192 .f32) : FVec Ideal S8x1x8192 .f32 := shapeCast S8x1x8192 P Facts₀.shapeCasts_S8x8192_S8x1x8192

/-- The centers after a round, from the sums and the rows of counts its launch leaves. -/
def nextCenters (S : FVec Ideal S8x512x32 .f32) (N : FVec Ideal S8x1x512 .f32) (C : FVec Ideal S8x512x32 .f32) : FVec Ideal S8x512x32 .f32 :=
  newCenters S (shapeCast S8x512x1 N Facts₀.shapeCasts_S8x1x512_S8x512x1) C

/-- The host operations after a round's launch leave, from contents `W`: the new centers `K`, the rows of the points' squared lengths, and the rows of the new centers'. -/
def Prepared (W : Valuation τ sig (Elt Ideal)) : Fin 5 → Prop
  | 0 => ∃ K, K = nextCenters (W main_call0_v7_1) (W main_call0_v7_2) (W main_call0_v0) ∧
      (StableHlo.after hostOps1 W main_call0_v16) = K ∧ StableHlo.after hostOps1 W main_call0_v19 = pointsSqRows (W main_call0_v2) ∧
      StableHlo.after hostOps1 W main_call0_v20 = centsSqRows K
  | 1 => ∃ K, K = nextCenters (W main_call0_v21_1) (W main_call0_v21_2) (W main_call0_v16) ∧
      (StableHlo.after hostOps2 W main_call0_v30) = K ∧ StableHlo.after hostOps2 W main_call0_v33 = pointsSqRows (W main_call0_v2) ∧
      StableHlo.after hostOps2 W main_call0_v34 = centsSqRows K
  | 2 => ∃ K, K = nextCenters (W main_call0_v35_1) (W main_call0_v35_2) (W main_call0_v30) ∧
      (StableHlo.after hostOps3 W main_call0_v44) = K ∧ StableHlo.after hostOps3 W main_call0_v47 = pointsSqRows (W main_call0_v2) ∧
      StableHlo.after hostOps3 W main_call0_v48 = centsSqRows K
  | 3 => ∃ K, K = nextCenters (W main_call0_v49_1) (W main_call0_v49_2) (W main_call0_v44) ∧
      (StableHlo.after hostOps4 W main_call0_v58) = K ∧ StableHlo.after hostOps4 W main_call0_v61 = pointsSqRows (W main_call0_v2) ∧
      StableHlo.after hostOps4 W main_call0_v62 = centsSqRows K
  | 4 => ∃ K, K = nextCenters (W main_call0_v63_1) (W main_call0_v63_2) (W main_call0_v58) ∧
      (StableHlo.after hostOps5 W main_v0_0) = K ∧ StableHlo.after hostOps5 W main_call0_v75 = pointsSqRows (W main_call0_v2) ∧
      StableHlo.after hostOps5 W main_call0_v76 = centsSqRows K

/-- The host operations after a round's launch do leave that. -/
theorem prepared (W : Valuation τ sig (Elt Ideal)) (r : Fin 5) : Prepared W r := by
  fin_cases r <;>
  · refine ⟨_, rfl, ?_, ?_, ?_⟩ <;>
    · after_reads_simp
      rfl

/-- The host operations before the first launch leave the first centers, the squared lengths of the points, and the rows of both squared lengths. -/
theorem prepared_first (W : Valuation τ sig (Elt Ideal)) :
    StableHlo.after hostOps0 W main_call0_v0 = initCenters (W main_arg0) ∧ StableHlo.after hostOps0 W main_call0_v2 = pointsSq (W main_arg0) ∧
      StableHlo.after hostOps0 W main_call0_v5 = pointsSqRows (pointsSq (W main_arg0)) ∧
      StableHlo.after hostOps0 W main_call0_v6 = centsSqRows (initCenters (W main_arg0)) := by
  refine ⟨?_, ?_, ?_, ?_⟩ <;>
  · after_reads_simp
    rfl

end Cert.Proof
-- ==== Proof.KernelValue.lean ====
/- The kernel's run: by induction on the rounds, every launch is entered with the reference's centers after as many rounds; at the end the first result holds the centers
   after five rounds and the second the labels of the points at those centers. -/
module

public import proofs.«01_k».proof.Proof.HostSteps

@[expose] public section

set_option maxRecDepth 16384

noncomputable section

namespace Cert.Proof

open Idealize.ShloMosaic Idealize.ShloMosaic.TcCoe Cert.KernelIdeal Cert.KernelIdeal.Gen

/-- The rows of the points' squared lengths at an index. -/
theorem pointsSqRows_eq (X : FVec Ideal S8x8192x32 .f32) (b : Fin 8) (n : Fin 8192) :
    pointsSqRows (pointsSq X) (ix3 b 0 n) = ∑ d : Fin 32, X (ix3 b n d) * X (ix3 b n d) := by
  pointwise [pointsSqRows, pointsSq]

/-- The rows of the centers' squared lengths at an index. -/
theorem centsSqRows_eq (C : FVec Ideal S8x512x32 .f32) (b : Fin 8) (k : Fin 512) :
    centsSqRows C (ix3 b 0 k) = ∑ d : Fin 32, C (ix3 b k d) * C (ix3 b k d) := by
  pointwise [centsSqRows]

/-- The rows of counts, laid out as a column per batch, are the reference's counts. -/
theorem countRows_cast (X : FVec Ideal S8x8192x32 .f32) (C : FVec Ideal S8x512x32 .f32) :
    shapeCast S8x512x1 (countRows X C) Facts₀.shapeCasts_S8x1x512_S8x512x1 = counts (asg X C) := by
  funext i
  rw [eq_ix3 i, show i 2 = (0 : Fin 1) from Subsingleton.elim (α := Fin 1) _ _]
  pointwise [countRows]

/-- The centers after a round, from what its launch leaves, are the reference's. -/
theorem nextCenters_eq (X : FVec Ideal S8x8192x32 .f32) (C : FVec Ideal S8x512x32 .f32) :
    nextCenters (sums X (asg X C)) (countRows X C) C = step X C := by
  unfold nextCenters
  rw [countRows_cast]
  rfl

variable (m : (ℓ : Loc nD τ sig) → Buf (Elt Ideal) ℓ) (ρ : Dev nD → PrngReg) (c : Dev nD)

/-- The points: the argument as launched. -/
abbrev points : FVec Ideal S8x8192x32 .f32 := m ((c : Thread nD τ).loc main_arg0)

/-- The buffers at the entry of launch `r`. -/
def atEntry : Fin 6 → Contents
  | 0 => V1 m ρ
  | 1 => V3 m ρ
  | 2 => V5 m ρ
  | 3 => V7 m ρ
  | 4 => V9 m ρ
  | 5 => V11 m ρ

/-- The buffers at the exit of launch `r`, on one core. -/
def atExit : Fin 5 → Valuation τ sig (Elt Ideal)
  | 0 => W2 m ρ c
  | 1 => W4 m ρ c
  | 2 => W6 m ρ c
  | 3 => W8 m ρ c
  | 4 => W10 m ρ c

/-- What launch `r` leaves, when its inputs were the points and the centers `C`: sums, counts, the centers and the points' squared lengths as they were. -/
def Left (C : FVec Ideal S8x512x32 .f32) : Fin 5 → Prop
  | 0 => W2 m ρ c main_call0_v7_1 = sums (points m c) (asg (points m c) C) ∧ W2 m ρ c main_call0_v7_2 = countRows (points m c) C ∧ W2 m ρ c main_call0_v0 = C
  | 1 => W4 m ρ c main_call0_v21_1 = sums (points m c) (asg (points m c) C) ∧ W4 m ρ c main_call0_v21_2 = countRows (points m c) C ∧ W4 m ρ c main_call0_v16 = C
  | 2 => W6 m ρ c main_call0_v35_1 = sums (points m c) (asg (points m c) C) ∧ W6 m ρ c main_call0_v35_2 = countRows (points m c) C ∧ W6 m ρ c main_call0_v30 = C
  | 3 => W8 m ρ c main_call0_v49_1 = sums (points m c) (asg (points m c) C) ∧ W8 m ρ c main_call0_v49_2 = countRows (points m c) C ∧ W8 m ρ c main_call0_v44 = C
  | 4 => W10 m ρ c main_call0_v63_1 = sums (points m c) (asg (points m c) C) ∧ W10 m ρ c main_call0_v63_2 = countRows (points m c) C ∧ W10 m ρ c main_call0_v58 = C

/-- A launch whose inputs are in place leaves that. -/
theorem left_of_entered (C : FVec Ideal S8x512x32 .f32) (r : Fin 5) (h : Entered (atEntry m ρ r.castSucc) c (points m c) C r.castSucc) : Left m ρ c C r := by
  have hl := round_leaves (atEntry m ρ r.castSucc) c (points m c) C r h
  fin_cases r
  · exact ⟨(W2_arr m ρ c 5).trans hl.1, (W2_arr m ρ c 6).trans hl.2, (W2_of m ρ c main_call0_v0 (by decide)).trans h.cents⟩
  · exact ⟨(W4_arr m ρ c 5).trans hl.1, (W4_arr m ρ c 6).trans hl.2, (W4_of m ρ c main_call0_v16 (by decide)).trans h.cents⟩
  · exact ⟨(W6_arr m ρ c 5).trans hl.1, (W6_arr m ρ c 6).trans hl.2, (W6_of m ρ c main_call0_v30 (by decide)).trans h.cents⟩
  · exact ⟨(W8_arr m ρ c 5).trans hl.1, (W8_arr m ρ c 6).trans hl.2, (W8_of m ρ c main_call0_v44 (by decide)).trans h.cents⟩
  · exact ⟨(W10_arr m ρ c 5).trans hl.1, (W10_arr m ρ c 6).trans hl.2, (W10_of m ρ c main_call0_v58 (by decide)).trans h.cents⟩

/-- The points' squared lengths stay where they are from one launch's entry to the next's. -/
theorem sq_kept (r : Fin 5) : (atEntry m ρ r.succ) c main_call0_v2 = (atEntry m ρ r.castSucc) c main_call0_v2 ∧
    atExit m ρ c r main_call0_v2 = (atEntry m ρ r.castSucc) c main_call0_v2 := by
  fin_cases r
  · exact ⟨(W3_of m ρ c main_call0_v2 (by decide)).trans (W2_of m ρ c main_call0_v2 (by decide)), W2_of m ρ c main_call0_v2 (by decide)⟩
  · exact ⟨(W5_of m ρ c main_call0_v2 (by decide)).trans (W4_of m ρ c main_call0_v2 (by decide)), W4_of m ρ c main_call0_v2 (by decide)⟩
  · exact ⟨(W7_of m ρ c main_call0_v2 (by decide)).trans (W6_of m ρ c main_call0_v2 (by decide)), W6_of m ρ c main_call0_v2 (by decide)⟩
  · exact ⟨(W9_of m ρ c main_call0_v2 (by decide)).trans (W8_of m ρ c main_call0_v2 (by decide)), W8_of m ρ c main_call0_v2 (by decide)⟩
  · exact ⟨(W11_of m ρ c main_call0_v2 (by decide)).trans (W10_of m ρ c main_call0_v2 (by decide)), W10_of m ρ c main_call0_v2 (by decide)⟩

/-- The points are still the argument at every launch's entry. -/
theorem points_kept (r : Fin 6) : (atEntry m ρ r) c main_arg0 = points m c := by
  fin_cases r
  · exact W1_args m ρ c main_arg0 (by decide)
  · exact W3_args m ρ c main_arg0 (by decide)
  · exact W5_args m ρ c main_arg0 (by decide)
  · exact W7_args m ρ c main_arg0 (by decide)
  · exact W9_args m ρ c main_arg0 (by decide)
  · exact W11_args m ρ c main_arg0 (by decide)

/-- Launch `r` is entered with the points and the reference's centers after `r` rounds, and the points' squared lengths are at hand. -/
def Ready (r : Fin 6) : Prop :=
  Entered (atEntry m ρ r) c (points m c) (centers (points m c) r.val) r ∧ (atEntry m ρ r) c main_call0_v2 = pointsSq (points m c)

/-- The first launch is ready. -/
theorem ready_zero : Ready m ρ c 0 := by
  obtain ⟨h0, h2, h5, h6⟩ := prepared_first (W0 m ρ c)
  refine ⟨⟨points_kept m ρ c 0, h0, fun b n => ?_, fun b k => ?_⟩, h2⟩
  · exact (congrFun h5 _).trans (pointsSqRows_eq _ b n)
  · exact (congrFun h6 _).trans (centsSqRows_eq _ b k)

/-- The inputs of the next launch, from what a round's launch leaves and what the host operations after it make of that. -/
theorem inputs_next {X : FVec Ideal S8x8192x32 .f32} {C : FVec Ideal S8x512x32 .f32} {x : FVec Ideal S8x8192x32 .f32} {S C' K ctr : FVec Ideal S8x512x32 .f32}
    {N csq : FVec Ideal S8x1x512 .f32} {xsq : FVec Ideal S8x1x8192 .f32} {P : FVec Ideal S8x8192 .f32}
    (hx : x = X) (hS : S = sums X (asg X C)) (hN : N = countRows X C) (hC : C' = C) (hP : P = pointsSq X)
    (hK : K = nextCenters S N C') (h1 : ctr = K) (h2 : xsq = pointsSqRows P) (h3 : csq = centsSqRows K) :
    Inputs X (step X C) x ctr xsq csq := by
  subst hS hN hC hP h1 h2 h3
  rw [nextCenters_eq] at hK
  subst hK
  exact ⟨hx, rfl, pointsSqRows_eq _, centsSqRows_eq _⟩

/-- The next launch is entered with its inputs in place, at the centers of one more round. -/
theorem entered_next (C : FVec Ideal S8x512x32 .f32) (r : Fin 5) (hl : Left m ρ c C r) (h2 : atExit m ρ c r main_call0_v2 = pointsSq (points m c)) :
    Entered (atEntry m ρ r.succ) c (points m c) (step (points m c) C) r.succ := by
  have hp := points_kept m ρ c r.succ
  have hw := prepared (atExit m ρ c r) r
  fin_cases r <;>
  · obtain ⟨K, hK, k1, k2, k3⟩ := hw
    obtain ⟨l1, l2, l3⟩ := hl
    exact inputs_next hp l1 l2 l3 h2 hK k1 k2 k3

/-- If a round's launch is ready, so is the next launch. -/
theorem ready_succ (r : Fin 5) (h : Ready m ρ c r.castSucc) : Ready m ρ c r.succ := by
  have hs := sq_kept m ρ c r
  exact ⟨entered_next m ρ c _ r (left_of_entered m ρ c _ r h.1) (hs.2.trans h.2), hs.1.trans h.2⟩

/-- Every launch is ready. -/
theorem ready (r : Fin 6) : Ready m ρ c r :=
  Fin.induction (ready_zero m ρ c) (fun r h => ready_succ m ρ c r h) r

/-- The first result: the centers after five rounds. -/
theorem centers_result : W13 m ρ c main_v0_0 = centers (points m c) 5 := by
  have h : Inputs (points m c) (centers (points m c) 5) _ _ _ _ := (ready m ρ c 5).1
  exact (W13_of m ρ c main_v0_0 (by decide)).trans ((W12_of m ρ c main_v0_0 (by decide)).trans h.cents)

/-- The host operation after the last launch lays its labels out as a matrix. -/
theorem prepared_last (W : Valuation τ sig (Elt Ideal)) :
    StableHlo.after hostOps6 W main_v0_1 = shapeCast S8x8192 (W main_call0_v77 : IVec S8x8192x1 32) Facts₀.shapeCasts_S8x8192x1_S8x8192 := by
  after_reads_simp
  rfl

/-- A matrix laid out as columns and back is the matrix. -/
theorem cast_columns (A : IVec S8x8192 32) :
    shapeCast S8x8192 (fun i : S8x8192x1.Idx => A (ix2 (i 0) (i 1))) Facts₀.shapeCasts_S8x8192x1_S8x8192 = A := by
  funext i
  rw [eq_ix2 i]
  pointwise

/-- The second result: the label of every point at the centers after five rounds. -/
theorem labels_result : W13 m ρ c main_v0_1 = asg (points m c) (centers (points m c) 5) := by
  have h12 : W12 m ρ c main_call0_v77 = labelColumns (points m c) (centers (points m c) 5) :=
    (W12_arr m ρ c 4).trans (labels_leave (atEntry m ρ 5) c _ _ (ready m ρ c 5).1)
  have h13 := prepared_last (W12 m ρ c)
  rw [h12] at h13
  exact h13.trans (cast_columns _)

end Cert.Proof
-- ==== Proof.KernelRun.lean ====
/- The kernel's run at the ideal floats: every weakly fair execution ends with the two results at the reference's functions of the argument. -/
module

public import proofs.«01_k».proof.Proof.KernelValue

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unifying its conclusion with the one stated here
set_option backward.isDefEq.respectTransparency.types false in
/-- From any memory with zero counters, every weakly fair execution of the kernel's program ends with the centers after five rounds in the first result, the labels of the
    points at those centers in the second, and the argument as launched. The launch's set-up is the generated frame's; the values are `centers_result` and `labels_result`. -/
theorem kernel_run : θ_run defs (onTc (τ := τ) (main (F := Ideal))) ⟨m, fun _ => 0, ρ⟩ (fun r => ∀ c : Dev nD,
      r.2.mem ((c.tc : Thread nD τ).loc main_v0_0) = centers (points m c) 5
      ∧ r.2.mem ((c.tc : Thread nD τ).loc main_v0_1) = asg (points m c) (centers (points m c) 5)
      ∧ r.2.mem ((c.tc : Thread nD τ).loc main_arg0) = m ((c.tc : Thread nD τ).loc main_arg0)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h _ c =>
      ⟨(h c _ (mem_uc main_v0_0 (by decide))).trans (centers_result m ρ c),
        (h c _ (mem_uc main_v0_1 (by decide))).trans (labels_result m ρ c),
        (h c _ (mem_uc main_arg0 (by decide))).trans (W13_main_arg0 m ρ c)⟩)

end Cert.Proof
-- ==== Proof.RefRun.lean ====
/- The reference's run: every weakly fair execution of the plain program ends with the two results at the functions of RefTerms.lean. -/
module

public import proofs.«01_k».proof.Proof.RefTerms
public import Idealize.ShloMosaic.Lib.StableHlo.RunHlo
public import Idealize.ShloMosaic.Lib.StableHlo.RunRead
public import Idealize.ShloMosaic.Lib.Quiescent

@[expose] public section

set_option maxRecDepth 65536

noncomputable section

namespace Cert.Proof

open Idealize.ShloMosaic Idealize.ShloMosaic.TcCoe Idealize.SL.Sem
open Cert.ReferenceIdeal Cert.ReferenceIdeal.Facts₀

/-- The reference's operations in order, with the proof that its program is that straight line. -/
def refLine : { ops : List (HloOp τ sig (Elt Ideal)) // ∀ d : Dev nD, StableHlo.IsSeq (main (F := Ideal) d) ops } := by
  apply Subtype.mk
  hlo_seq

/-- Where every batch's rows begin in the flattened table of centers. -/
def offsets : IVec S8x1 32 :=
  broadcastInDim S8x1 ![0] bcast_S8_S8x1_0 (muli (iotaInDim S8 32 0) (broadcastInDim S8 ![] bcast_S_S8 (constantI S_ 32 512#32)))

/-- The reference's operations from the `n`-th on, `k` of them. -/
abbrev refPiece (n k : ℕ) : List (HloOp τ sig (Elt Ideal)) := (refLine.1.drop n).take k

/-- What the program leaves on the way that the rest of it reads: the argument as launched, where the batches' rows begin, and the centers before round `r`. -/
def Reached (X : FVec Ideal S8x8192x32 .f32) (V : Valuation τ sig (Elt Ideal)) : Fin 6 → Prop
  | 0 => V main_arg0 = X ∧ V main_v4 = offsets ∧ V main_v0 = centers X 0
  | 1 => V main_arg0 = X ∧ V main_v4 = offsets ∧ V main_v38 = centers X 1
  | 2 => V main_arg0 = X ∧ V main_v4 = offsets ∧ V main_v72 = centers X 2
  | 3 => V main_arg0 = X ∧ V main_v4 = offsets ∧ V main_v106 = centers X 3
  | 4 => V main_arg0 = X ∧ V main_v4 = offsets ∧ V main_v140 = centers X 4
  | 5 => V main_arg0 = X ∧ V main_v4 = offsets ∧ V main_v174 = centers X 5

/-- The same after a round's labels are computed, with the labels. -/
def Labelled (X : FVec Ideal S8x8192x32 .f32) (V : Valuation τ sig (Elt Ideal)) : Fin 6 → Prop
  | 0 => Reached X V 0 ∧ V main_v18 = asg X (centers X 0)
  | 1 => Reached X V 1 ∧ V main_v52 = asg X (centers X 1)
  | 2 => Reached X V 2 ∧ V main_v86 = asg X (centers X 2)
  | 3 => Reached X V 3 ∧ V main_v120 = asg X (centers X 3)
  | 4 => Reached X V 4 ∧ V main_v154 = asg X (centers X 4)
  | 5 => Reached X V 5 ∧ V main_v188 = asg X (centers X 5)

/-- The operations before the first round leave what the first round reads. -/
theorem reached_first (V : Valuation τ sig (Elt Ideal)) : Reached (V main_arg0) (StableHlo.after (refLine.1.take 6) V) 0 := by
  refine ⟨?_, ?_, ?_⟩ <;>
  · after_reads_simp
    try rfl

/-- The first 21 operations of a round label the points. -/
theorem labelled (X : FVec Ideal S8x8192x32 .f32) (V : Valuation τ sig (Elt Ideal)) (r : Fin 6) (h : Reached X V r) :
    Labelled X (StableHlo.after (refPiece (6 + 47 * r.val) 21) V) r := by
  fin_cases r <;>
  · obtain ⟨hX, hO, hC⟩ := h
    refine ⟨⟨?_, ?_, ?_⟩, ?_⟩
    · after_reads_simp
      exact hX
    · after_reads_simp
      exact hO
    · after_reads_simp
      exact hC
    · after_reads_simp
      simp only [StableHlo.TRef.ofBuf, StableHlo.TRef.toBuf, cast_eq, argminIdx_def, hX, hC, asg, argminOf, dist]

/-- The centers after one more round, from the argument, the centers and the labels that round goes by. -/
theorem centers_next {X x : FVec Ideal S8x8192x32 .f32} {c : FVec Ideal S8x512x32 .f32} {A : IVec S8x8192 32} {r : ℕ}
    (hX : x = X) (hC : c = centers X r) (hA : A = asg X (centers X r)) : newCenters (sums x A) (counts A) c = centers X (r + 1) := by
  subst hX hC hA
  rw [centers, step]

/-- The other 26 operations of a round move the centers. -/
theorem reached_next (X : FVec Ideal S8x8192x32 .f32) (V : Valuation τ sig (Elt Ideal)) (r : Fin 5) (h : Labelled X V r.castSucc) :
    Reached X (StableHlo.after (refPiece (6 + 47 * r.val + 21) 26) V) r.succ := by
  fin_cases r <;>
  · obtain ⟨⟨hX, hO, hC⟩, hA⟩ := h
    refine ⟨?_, ?_, ?_⟩
    · after_reads_simp
      exact hX
    · after_reads_simp
      exact hO
    · after_reads_simp
      rw [hO]
      refine Eq.trans ?_ (centers_next hX hC hA)
      simp only [StableHlo.TRef.ofBuf, StableHlo.TRef.toBuf, cast_eq]
      unfold newCenters sums counts flatIds offsets
      rfl

/-- The first `a`, the next `b` and the next `c` members of a list are its first `a + b + c`. -/
theorem take_two {α : Type*} (l : List α) (a b c : ℕ) :
    (l.take a ++ (l.drop a).take b) ++ (l.drop (a + b)).take c = l.take (a + b + c) := by
  rw [← List.take_add, ← List.take_add]

/-- The operations up to round `r`'s leave what round `r` reads. -/
theorem reached (V : Valuation τ sig (Elt Ideal)) (r : ℕ) (hr : r < 6) :
    Reached (V main_arg0) (StableHlo.after (refLine.1.take (6 + 47 * r)) V) ⟨r, hr⟩ := by
  induction r with
  | zero => exact reached_first V
  | succ r ih =>
    have h := reached_next _ _ ⟨r, by omega⟩ (labelled _ _ _ (ih (by omega)))
    rw [← StableHlo.after_append, ← StableHlo.after_append, ← List.append_assoc] at h
    exact (take_two refLine.1 (6 + 47 * r) 21 26) ▸ h

/-- The reference's run: from any memory with zero counters it ends with the centers after five rounds in the first result, the labels of the points
    at those centers in the second, and the argument as launched. -/
theorem reference_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v174) = centers (m ((c.tc : Thread nD τ).loc main_arg0)) 5
      ∧ r.2.mem ((c.tc : Thread nD τ).loc main_v188) = asg (m ((c.tc : Thread nD τ).loc main_arg0)) (centers (m ((c.tc : Thread nD τ).loc main_arg0)) 5)
      ∧ r.2.mem ((c.tc : Thread nD τ).loc main_arg0) = m ((c.tc : Thread nD τ).loc main_arg0)) := by
  refine θ_run_mono (StableHlo.run_hlo defs main refLine.2 (by decide) (by decide) ?_ ?_ m ρ) fun r hr c => ?_
  · simp [refLine]
  · intro _ h
    repeat (cases h with | head => rfl | tail _ h => ?_)
    exact nomatch h
  · have h := labelled _ _ 5 (reached (StableHlo.launchContents m c) 5 (by omega))
    rw [← StableHlo.after_append] at h
    have hl : refLine.1.take (6 + 47 * 5) ++ refPiece (6 + 47 * (5 : Fin 6).val) 21 = refLine.1 := rfl
    rw [hl] at h
    obtain ⟨⟨h0, -, hC⟩, hA⟩ := h
    exact ⟨(hr c _).trans hC, (hr c _).trans hA, (hr c _).trans h0⟩

/-- The reference's frame: it ends with the argument as launched and, having no semaphore, with every counter at zero. -/
theorem reference_frame (m : (ℓ : Loc nD τ sig) → Buf (Elt Ideal) ℓ) (ρ : Dev nD → PrngReg) :
    θ_run defs (onTc (τ := τ) (main (F := Ideal))) ⟨m, fun _ => 0, ρ⟩ (fun r =>
      (∀ c : Dev nD, r.2.mem ((c.tc : Thread nD τ).loc main_arg0) = m ((c.tc : Thread nD τ).loc main_arg0)) ∧ r.2.sem = fun _ => 0) :=
  θ_run_mono (reference_run m ρ) fun r hr => ⟨fun c => (hr c).2.2, sem_eq_zero_of_no_sems rfl r.2⟩

end Cert.Proof
-- ==== Proof.lean ====
/- The proof of the claim: the three frames, the idealization, and the equality of the kernel's results with the reference's over the extended reals.
   The kernel's run (KernelRun.lean) and the reference's (RefRun.lean) both end at the functions of RefTerms.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.RefRun
public import Idealize.ShloMosaic.Adequacy
public import Idealize.ShloMosaic.Init

@[expose] public section

noncomputable section

namespace Cert.Proof

open Idealize.ShloMosaic Idealize.SL.Sem

/-- From memories that agree on the argument, the kernel and the reference end with equal results: the centers after five rounds, and the labels of the points at those centers. -/
theorem algebraic : Cert.algebraic_KernelIdeal_ReferenceIdeal := by
  intro m g m' g' _ hagree
  refine ⟨fun c => centers (points m c) 5, fun c => asg (points m c) (centers (points m c) 5), kernel_run m g, ?_⟩
  refine θ_run_mono (reference_run m' g') fun r hr c => ?_
  have h := hr c
  rw [hagree c] at h
  exact ⟨h.1, h.2.1, h.2.2.trans (hagree c).symm⟩

/-- The whole claim: the programs' stated facts, the three frames, the idealization, and the equality of the results. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, fun m g _ => reference_frame m g, trivial, algebraic⟩

end Cert.Proof

end
